-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x96x224x224 : Shape := ⟨4, ![2, 96, 224, 224]⟩
abbrev S392x392x4 : Shape := ⟨3, ![392, 392, 4]⟩
abbrev S392 : Shape := ⟨1, ![392]⟩
abbrev S96x98 : Shape := ⟨2, ![96, 98]⟩
abbrev S96 : Shape := ⟨1, ![96]⟩
abbrev S_ : Shape := ⟨0, ![]⟩

class Facts : Prop where
  bcast_S_S2x96x224x224 : S_.BroadcastsInDim S2x96x224x224 (![] : Fin 0 → Fin S2x96x224x224.rank)
  reducesTo_S2x96x224x224_S_d0_1_2_3 : S2x96x224x224.ReducesTo [0, 1, 2, 3] S_
  h_S_ : 0 < S_.numel
  bcast_S_S392x392x4 : S_.BroadcastsInDim S392x392x4 (![] : Fin 0 → Fin S392x392x4.rank)
  reducesTo_S392x392x4_S_d0_1_2 : S392x392x4.ReducesTo [0, 1, 2] S_
  bcast_S_S96x98 : S_.BroadcastsInDim S96x98 (![] : Fin 0 → Fin S96x98.rank)
  reducesTo_S96x98_S_d0_1 : S96x98.ReducesTo [0, 1] S_

variable [Facts]

def fn {F : FTy → Type} [FloatOps F] (main_arg0 : FVec F S2x96x224x224 .f32) (main_arg1 : FVec F S392x392x4 .f32) (main_arg2 : FVec F S392 .f32) (main_arg3 : FVec F S96x98 .f32) (main_arg4 : FVec F S96 .f32) : IVec S_ 1 :=
  let main_v0 : FVec F S2x96x224x224 .f32 := Host.absf main_arg0
  let main_cst : FVec F S_ .f32 := constant S_ .f32 0x7F800000#32
  let main_v1 : FVec F S2x96x224x224 .f32 := broadcastInDim S2x96x224x224 ![] bcast_S_S2x96x224x224 main_cst
  let main_v2 : IVec S2x96x224x224 1 := cmpf .olt main_v0 main_v1
  let main_c : IVec S_ 1 := constantI S_ 1 1#1
  let main_v3 : IVec S_ 1 := (fun x v => Host.reduce IntOp.andi x v reducesTo_S2x96x224x224_S_d0_1_2_3 h_S_) main_v2 main_c
  let main_v4 : FVec F S392x392x4 .f32 := Host.absf main_arg1
  let main_cst_0 : FVec F S_ .f32 := constant S_ .f32 0x7F800000#32
  let main_v5 : FVec F S392x392x4 .f32 := broadcastInDim S392x392x4 ![] bcast_S_S392x392x4 main_cst_0
  let main_v6 : IVec S392x392x4 1 := cmpf .olt main_v4 main_v5
  let main_c_1 : IVec S_ 1 := constantI S_ 1 1#1
  let main_v7 : IVec S_ 1 := (fun x v => Host.reduce IntOp.andi x v reducesTo_S392x392x4_S_d0_1_2 h_S_) main_v6 main_c_1
  let main_v8 : IVec S_ 1 := andi main_v3 main_v7
  let main_v9 : FVec F S96x98 .f32 := Host.absf main_arg3
  let main_cst_2 : FVec F S_ .f32 := constant S_ .f32 0x7F800000#32
  let main_v10 : FVec F S96x98 .f32 := broadcastInDim S96x98 ![] bcast_S_S96x98 main_cst_2
  let main_v11 : IVec S96x98 1 := cmpf .olt main_v9 main_v10
  let main_c_3 : IVec S_ 1 := constantI S_ 1 1#1
  let main_v12 : IVec S_ 1 := (fun x v => Host.reduce IntOp.andi x v reducesTo_S96x98_S_d0_1 h_S_) main_v11 main_c_3
  let main_v13 : IVec S_ 1 := andi main_v8 main_v12
  main_v13
-- ==== Kernel.lean ====
abbrev S2x96x224x224 : Shape := ⟨4, ![2, 96, 224, 224]⟩
abbrev S392x392x4 : Shape := ⟨3, ![392, 392, 4]⟩
abbrev S392 : Shape := ⟨1, ![392]⟩
abbrev S96x98 : Shape := ⟨2, ![96, 98]⟩
abbrev S96 : Shape := ⟨1, ![96]⟩
abbrev S224 : Shape := ⟨1, ![224]⟩
abbrev S224x224 : Shape := ⟨2, ![224, 224]⟩
abbrev S_ : Shape := ⟨0, ![]⟩
abbrev S1x224x224 : Shape := ⟨3, ![1, 224, 224]⟩
abbrev S2x224x224 : Shape := ⟨3, ![2, 224, 224]⟩
abbrev S1x2x224x224 : Shape := ⟨4, ![1, 2, 224, 224]⟩
abbrev S2x2x224x224 : Shape := ⟨4, ![2, 2, 224, 224]⟩
abbrev S2x98x224x224 : Shape := ⟨4, ![2, 98, 224, 224]⟩
abbrev S2x98x112x2x112x2 : Shape := ⟨6, ![2, 98, 112, 2, 112, 2]⟩
abbrev S2x112x112x98x2x2 : Shape := ⟨6, ![2, 112, 112, 98, 2, 2]⟩
abbrev S2x12544x392 : Shape := ⟨3, ![2, 12544, 392]⟩
abbrev S15 : Shape := ⟨1, ![15]⟩
abbrev S1 : Shape := ⟨1, ![1]⟩
abbrev S16 : Shape := ⟨1, ![16]⟩
abbrev S16x1 : Shape := ⟨2, ![16, 1]⟩
abbrev S1x16 : Shape := ⟨2, ![1, 16]⟩
abbrev S16x16 : Shape := ⟨2, ![16, 16]⟩
abbrev S256 : Shape := ⟨1, ![256]⟩
abbrev S256x1 : Shape := ⟨2, ![256, 1]⟩
abbrev S1x1 : Shape := ⟨2, ![1, 1]⟩
abbrev S2x256x392 : Shape := ⟨3, ![2, 256, 392]⟩
abbrev S2x392x256 : Shape := ⟨3, ![2, 392, 256]⟩
abbrev S98x4x392x4 : Shape := ⟨4, ![98, 4, 392, 4]⟩
abbrev S4x392x4x96 : Shape := ⟨4, ![4, 392, 4, 96]⟩
abbrev S392x4x4x96 : Shape := ⟨4, ![392, 4, 4, 96]⟩
abbrev S392x1536 : Shape := ⟨2, ![392, 1536]⟩
abbrev S98x4 : Shape := ⟨2, ![98, 4]⟩
abbrev S4x96 : Shape := ⟨2, ![4, 96]⟩
abbrev S1x96 : Shape := ⟨2, ![1, 96]⟩
abbrev S1x384 : Shape := ⟨2, ![1, 384]⟩
abbrev S2x256x1536 : Shape := ⟨3, ![2, 256, 1536]⟩
abbrev S1x256x392 : Shape := ⟨3, ![1, 256, 392]⟩
abbrev S1x256x1536 : Shape := ⟨3, ![1, 256, 1536]⟩
abbrev S256x392 : Shape := ⟨2, ![256, 392]⟩
abbrev S256x1536 : Shape := ⟨2, ![256, 1536]⟩
abbrev S2x12544x384 : Shape := ⟨3, ![2, 12544, 384]⟩
abbrev S1x392x256 : Shape := ⟨3, ![1, 392, 256]⟩
abbrev S1x256x384 : Shape := ⟨3, ![1, 256, 384]⟩
abbrev S392x256 : Shape := ⟨2, ![392, 256]⟩
abbrev S1x256 : Shape := ⟨2, ![1, 256]⟩
abbrev S256x256 : Shape := ⟨2, ![256, 256]⟩
abbrev S256x384 : Shape := ⟨2, ![256, 384]⟩
abbrev S2x112x112x2x2x96 : Shape := ⟨6, ![2, 112, 112, 2, 2, 96]⟩
abbrev S2x96x112x2x112x2 : Shape := ⟨6, ![2, 96, 112, 2, 112, 2]⟩

abbrev nBuf : Space → Nat
  | .hbm => 100
  | .vmem => 14
  | .smem => 0
  | _ => 0

abbrev bufTy : (tb : Table) → Fin (tcTables nBuf tb) → BufTy
  | .hbm, ⟨0, _⟩ => ⟨S2x96x224x224, .f32⟩
  | .hbm, ⟨1, _⟩ => ⟨S392x392x4, .f32⟩
  | .hbm, ⟨2, _⟩ => ⟨S392, .f32⟩
  | .hbm, ⟨3, _⟩ => ⟨S96x98, .f32⟩
  | .hbm, ⟨4, _⟩ => ⟨S96, .f32⟩
  | .hbm, ⟨5, _⟩ => ⟨S224, .f32⟩
  | .hbm, ⟨6, _⟩ => ⟨S224, .f32⟩
  | .hbm, ⟨7, _⟩ => ⟨S224x224, .f32⟩
  | .hbm, ⟨8, _⟩ => ⟨S224x224, .f32⟩
  | .hbm, ⟨9, _⟩ => ⟨S224x224, .f32⟩
  | .hbm, ⟨10, _⟩ => ⟨S224x224, .f32⟩
  | .hbm, ⟨11, _⟩ => ⟨S224x224, .f32⟩
  | .hbm, ⟨12, _⟩ => ⟨S224x224, .f32⟩
  | .hbm, ⟨13, _⟩ => ⟨S_, .f32⟩
  | .hbm, ⟨14, _⟩ => ⟨S224x224, .f32⟩
  | .hbm, ⟨15, _⟩ => ⟨S224x224, .f32⟩
  | .hbm, ⟨16, _⟩ => ⟨S224x224, .f32⟩
  | .hbm, ⟨17, _⟩ => ⟨S224x224, .f32⟩
  | .hbm, ⟨18, _⟩ => ⟨S1x224x224, .f32⟩
  | .hbm, ⟨19, _⟩ => ⟨S1x224x224, .f32⟩
  | .hbm, ⟨20, _⟩ => ⟨S2x224x224, .f32⟩
  | .hbm, ⟨21, _⟩ => ⟨S1x2x224x224, .f32⟩
  | .hbm, ⟨22, _⟩ => ⟨S2x2x224x224, .f32⟩
  | .hbm, ⟨23, _⟩ => ⟨S2x98x224x224, .f32⟩
  | .hbm, ⟨24, _⟩ => ⟨S2x98x112x2x112x2, .f32⟩
  | .hbm, ⟨25, _⟩ => ⟨S2x112x112x98x2x2, .f32⟩
  | .hbm, ⟨26, _⟩ => ⟨S2x12544x392, .f32⟩
  | .hbm, ⟨27, _⟩ => ⟨S_, .i32⟩
  | .hbm, ⟨28, _⟩ => ⟨S_, .i32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S15, .f32⟩
  | .hbm, ⟨35, _⟩ => ⟨S_, .f32⟩
  | .hbm, ⟨36, _⟩ => ⟨S15, .f32⟩
  | .hbm, ⟨37, _⟩ => ⟨S15, .f32⟩
  | .hbm, ⟨38, _⟩ => ⟨S1, .f32⟩
  | .hbm, ⟨39, _⟩ => ⟨S_, .f32⟩
  | .hbm, ⟨40, _⟩ => ⟨S15, .f32⟩
  | .hbm, ⟨41, _⟩ => ⟨S15, .f32⟩
  | .hbm, ⟨42, _⟩ => ⟨S15, .f32⟩
  | .hbm, ⟨43, _⟩ => ⟨S15, .f32⟩
  | .hbm, ⟨44, _⟩ => ⟨S1, .f32⟩
  | .hbm, ⟨45, _⟩ => ⟨S15, .f32⟩
  | .hbm, ⟨46, _⟩ => ⟨S15, .f32⟩
  | .hbm, ⟨47, _⟩ => ⟨S15, .f32⟩
  | .hbm, ⟨48, _⟩ => ⟨S1, .f32⟩
  | .hbm, ⟨49, _⟩ => ⟨S16, .f32⟩
  | .hbm, ⟨50, _⟩ => ⟨S16, .f32⟩
  | .hbm, ⟨51, _⟩ => ⟨S16, .i32⟩
  | .hbm, ⟨52, _⟩ => ⟨S16x1, .i32⟩
  | .hbm, ⟨53, _⟩ => ⟨S_, .i32⟩
  | .hbm, ⟨54, _⟩ => ⟨S16x1, .i32⟩
  | .hbm, ⟨55, _⟩ => ⟨S16x1, .i32⟩
  | .hbm, ⟨56, _⟩ => ⟨S1x16, .i32⟩
  | .hbm, ⟨57, _⟩ => ⟨S16x16, .i32⟩
  | .hbm, ⟨58, _⟩ => ⟨S16x16, .i32⟩
  | .hbm, ⟨59, _⟩ => ⟨S16x16, .i32⟩
  | .hbm, ⟨60, _⟩ => ⟨S256, .i32⟩
  | .hbm, ⟨61, _⟩ => ⟨S_, .i32⟩
  | .hbm, ⟨62, _⟩ => ⟨S256, .i32⟩
  | .hbm, ⟨63, _⟩ => ⟨S256, .i1⟩
  | .hbm, ⟨64, _⟩ => ⟨S_, .i32⟩
  | .hbm, ⟨65, _⟩ => ⟨S256, .i32⟩
  | .hbm, ⟨66, _⟩ => ⟨S256, .i32⟩
  | .hbm, ⟨67, _⟩ => ⟨S256, .i32⟩
  | .hbm, ⟨68, _⟩ => ⟨S256x1, .i32⟩
  | .hbm, ⟨69, _⟩ => ⟨S1, .i32⟩
  | .hbm, ⟨70, _⟩ => ⟨S_, .i32⟩
  | .hbm, ⟨71, _⟩ => ⟨S256x1, .i32⟩
  | .hbm, ⟨72, _⟩ => ⟨S256x1, .i1⟩
  | .hbm, ⟨73, _⟩ => ⟨S1x1, .i32⟩
  | .hbm, ⟨74, _⟩ => ⟨S256x1, .i32⟩
  | .hbm, ⟨75, _⟩ => ⟨S256x1, .i1⟩
  | .hbm, ⟨76, _⟩ => ⟨S256x1, .i1⟩
  | .hbm, ⟨77, _⟩ => ⟨S_, .i1⟩
  | .hbm, ⟨78, _⟩ => ⟨S256, .i1⟩
  | .hbm, ⟨79, _⟩ => ⟨S2x256x392, .f32⟩
  | .hbm, ⟨80, _⟩ => ⟨S2x256x392, .i1⟩
  | .hbm, ⟨81, _⟩ => ⟨S_, .f32⟩
  | .hbm, ⟨82, _⟩ => ⟨S2x256x392, .f32⟩
  | .hbm, ⟨83, _⟩ => ⟨S2x256x392, .f32⟩
  | .hbm, ⟨84, _⟩ => ⟨S2x392x256, .f32⟩
  | .hbm, ⟨85, _⟩ => ⟨S98x4x392x4, .f32⟩
  | .hbm, ⟨86, _⟩ => ⟨S4x392x4x96, .f32⟩
  | .hbm, ⟨87, _⟩ => ⟨S392x4x4x96, .f32⟩
  | .hbm, ⟨88, _⟩ => ⟨S392x1536, .f32⟩
  | .hbm, ⟨89, _⟩ => ⟨S98x4, .f32⟩
  | .hbm, ⟨90, _⟩ => ⟨S4x96, .f32⟩
  | .hbm, ⟨91, _⟩ => ⟨S1x96, .f32⟩
  | .hbm, ⟨92, _⟩ => ⟨S4x96, .f32⟩
  | .hbm, ⟨93, _⟩ => ⟨S4x96, .f32⟩
  | .hbm, ⟨94, _⟩ => ⟨S1x384, .f32⟩
  | .hbm, ⟨95, _⟩ => ⟨S2x256x1536, .f32⟩
  | .hbm, ⟨96, _⟩ => ⟨S2x12544x384, .f32⟩
  | .hbm, ⟨97, _⟩ => ⟨S2x112x112x2x2x96, .f32⟩
  | .hbm, ⟨98, _⟩ => ⟨S2x96x112x2x112x2, .f32⟩
  | .hbm, ⟨99, _⟩ => ⟨S2x96x224x224, .f32⟩
  | .local _ .vmem, ⟨0, _⟩ => ⟨S1x256x392, .f32⟩
  | .local _ .vmem, ⟨1, _⟩ => ⟨S1x256x392, .f32⟩
  | .local _ .vmem, ⟨2, _⟩ => ⟨S392x1536, .f32⟩
  | .local _ .vmem, ⟨3, _⟩ => ⟨S1x256x1536, .f32⟩
  | .local _ .vmem, ⟨4, _⟩ => ⟨S1x256x1536, .f32⟩
  | .local _ .vmem, ⟨5, _⟩ => ⟨S1x256x392, .f32⟩
  | .local _ .vmem, ⟨6, _⟩ => ⟨S1x256x392, .f32⟩
  | .local _ .vmem, ⟨7, _⟩ => ⟨S1x392x256, .f32⟩
  | .local _ .vmem, ⟨8, _⟩ => ⟨S1x392x256, .f32⟩
  | .local _ .vmem, ⟨9, _⟩ => ⟨S1x256x1536, .f32⟩
  | .local _ .vmem, ⟨10, _⟩ => ⟨S1x256x1536, .f32⟩
  | .local _ .vmem, ⟨11, _⟩ => ⟨S1x384, .f32⟩
  | .local _ .vmem, ⟨12, _⟩ => ⟨S1x256x384, .f32⟩
  | .local _ .vmem, ⟨13, _⟩ => ⟨S1x256x384, .f32⟩
  | _, _ => ⟨S2x96x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_c : Ref sig .tc := ⟨.hbm, 27, rfl⟩
abbrev main_c_0 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_cst : Ref sig .tc := ⟨.hbm, 32, rfl⟩
abbrev main_call0_v3 : Ref sig .tc := ⟨.hbm, 33, rfl⟩
abbrev main_call0_v4 : Ref sig .tc := ⟨.hbm, 34, rfl⟩
abbrev main_call0_cst_0 : Ref sig .tc := ⟨.hbm, 35, rfl⟩
abbrev main_call0_v5 : Ref sig .tc := ⟨.hbm, 36, rfl⟩
abbrev main_call0_v6 : Ref sig .tc := ⟨.hbm, 37, rfl⟩
abbrev main_call0_v7 : Ref sig .tc := ⟨.hbm, 38, rfl⟩
abbrev main_call0_cst_1 : Ref sig .tc := ⟨.hbm, 39, rfl⟩
abbrev main_call0_v8 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_v12 : Ref sig .tc := ⟨.hbm, 44, rfl⟩
abbrev main_call0_v13 : Ref sig .tc := ⟨.hbm, 45, rfl⟩
abbrev main_call0_v14 : Ref sig .tc := ⟨.hbm, 46, rfl⟩
abbrev main_call0_v15 : Ref sig .tc := ⟨.hbm, 47, rfl⟩
abbrev main_call0_v16 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_c_1 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_call2_c : Ref sig .tc := ⟨.hbm, 61, rfl⟩
abbrev main_call2_v0 : Ref sig .tc := ⟨.hbm, 62, rfl⟩
abbrev main_call2_v1 : Ref sig .tc := ⟨.hbm, 63, rfl⟩
abbrev main_call2_c_0 : Ref sig .tc := ⟨.hbm, 64, rfl⟩
abbrev main_call2_v2 : Ref sig .tc := ⟨.hbm, 65, rfl⟩
abbrev main_call2_v3 : Ref sig .tc := ⟨.hbm, 66, rfl⟩
abbrev main_call2_v4 : Ref sig .tc := ⟨.hbm, 67, rfl⟩
abbrev main_call2_v5 : Ref sig .tc := ⟨.hbm, 68, rfl⟩
abbrev main_call2_c_1 : Ref sig .tc := ⟨.hbm, 69, rfl⟩
abbrev main_call2_c_2 : Ref sig .tc := ⟨.hbm, 70, rfl⟩
abbrev main_call2_v6 : Ref sig .tc := ⟨.hbm, 71, rfl⟩
abbrev main_call2_v7 : Ref sig .tc := ⟨.hbm, 72, rfl⟩
abbrev main_call2_v8 : Ref sig .tc := ⟨.hbm, 73, rfl⟩
abbrev main_call2_v9 : Ref sig .tc := ⟨.hbm, 74, rfl⟩
abbrev main_call2_v10 : Ref sig .tc := ⟨.hbm, 75, rfl⟩
abbrev main_call2_v11 : Ref sig .tc := ⟨.hbm, 76, rfl⟩
abbrev main_call2_c_3 : Ref sig .tc := ⟨.hbm, 77, rfl⟩
abbrev main_call2_v12 : Ref sig .tc := ⟨.hbm, 78, rfl⟩
abbrev main_call2_v13 : Ref sig .tc := ⟨.hbm, 79, rfl⟩
abbrev main_call2_v14 : Ref sig .tc := ⟨.hbm, 80, rfl⟩
abbrev main_call2_cst : Ref sig .tc := ⟨.hbm, 81, rfl⟩
abbrev main_call2_v15 : Ref sig .tc := ⟨.hbm, 82, rfl⟩
abbrev main_v32 : Ref sig .tc := ⟨.hbm, 83, rfl⟩
abbrev main_v33 : Ref sig .tc := ⟨.hbm, 84, rfl⟩
abbrev main_v34 : Ref sig .tc := ⟨.hbm, 85, rfl⟩
abbrev main_v35 : Ref sig .tc := ⟨.hbm, 86, rfl⟩
abbrev main_v36 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_v40 : Ref sig .tc := ⟨.hbm, 91, rfl⟩
abbrev main_v41 : Ref sig .tc := ⟨.hbm, 92, rfl⟩
abbrev main_v42 : Ref sig .tc := ⟨.hbm, 93, rfl⟩
abbrev main_v43 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x392 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S392x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 49], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x392 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x392x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x256x1536 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S1x384 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x256x384 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]
-- ==== ReferenceIdeal.lean ====
abbrev S2x96x224x224 : Shape := ⟨4, ![2, 96, 224, 224]⟩
abbrev S392x392x4 : Shape := ⟨3, ![392, 392, 4]⟩
abbrev S392 : Shape := ⟨1, ![392]⟩
abbrev S96x98 : Shape := ⟨2, ![96, 98]⟩
abbrev S96 : Shape := ⟨1, ![96]⟩
abbrev S224 : Shape := ⟨1, ![224]⟩
abbrev S224x224 : Shape := ⟨2, ![224, 224]⟩
abbrev S1x224x224 : Shape := ⟨3, ![1, 224, 224]⟩
abbrev S2x224x224 : Shape := ⟨3, ![2, 224, 224]⟩
abbrev S_ : Shape := ⟨0, ![]⟩
abbrev S1x2x224x224 : Shape := ⟨4, ![1, 2, 224, 224]⟩
abbrev S2x2x224x224 : Shape := ⟨4, ![2, 2, 224, 224]⟩
abbrev S2x98x224x224 : Shape := ⟨4, ![2, 98, 224, 224]⟩
abbrev S2x98x112x2x112x2 : Shape := ⟨6, ![2, 98, 112, 2, 112, 2]⟩
abbrev S2x98x2x2x112x112 : Shape := ⟨6, ![2, 98, 2, 2, 112, 112]⟩
abbrev S2x392x112x112 : Shape := ⟨4, ![2, 392, 112, 112]⟩
abbrev S15 : Shape := ⟨1, ![15]⟩
abbrev S1 : Shape := ⟨1, ![1]⟩
abbrev S16 : Shape := ⟨1, ![16]⟩
abbrev S16x16 : Shape := ⟨2, ![16, 16]⟩
abbrev S256 : Shape := ⟨1, ![256]⟩
abbrev S16x16x1 : Shape := ⟨3, ![16, 16, 1]⟩
abbrev S16x16x2 : Shape := ⟨3, ![16, 16, 2]⟩
abbrev S2x392x16x16 : Shape := ⟨4, ![2, 392, 16, 16]⟩
abbrev S2x392x256 : Shape := ⟨3, ![2, 392, 256]⟩
abbrev S2x392x12544 : Shape := ⟨3, ![2, 392, 12544]⟩
abbrev S2x12544 : Shape := ⟨2, ![2, 12544]⟩
abbrev S2x256 : Shape := ⟨2, ![2, 256]⟩
abbrev S2x12544x256 : Shape := ⟨3, ![2, 12544, 256]⟩
abbrev S2x12544x1 : Shape := ⟨3, ![2, 12544, 1]⟩
abbrev S2x1x256 : Shape := ⟨3, ![2, 1, 256]⟩
abbrev S2x12544x4 : Shape := ⟨3, ![2, 12544, 4]⟩
abbrev S2x12544x4x1 : Shape := ⟨4, ![2, 12544, 4, 1]⟩
abbrev S2x392x12544x4 : Shape := ⟨4, ![2, 392, 12544, 4]⟩
abbrev S392x2x12544 : Shape := ⟨3, ![392, 2, 12544]⟩
abbrev S1x392x1 : Shape := ⟨3, ![1, 392, 1]⟩
abbrev S96x2x224x224 : Shape := ⟨4, ![96, 2, 224, 224]⟩
abbrev S1x96x1x1 : Shape := ⟨4, ![1, 96, 1, 1]⟩

abbrev nBuf : Space → Nat
  | .hbm => 157
  | .vmem => 0
  | .smem => 0
  | _ => 0

abbrev hbmTy0_0 (i : Nat) : BufTy := match i % 128 with
  | 0 => ⟨S2x96x224x224, .f32⟩
  | 1 => ⟨S392x392x4, .f32⟩
  | 2 => ⟨S392, .f32⟩
  | 3 => ⟨S96x98, .f32⟩
  | 4 => ⟨S96, .f32⟩
  | 5 => ⟨S224, .f32⟩
  | 6 => ⟨S224, .f32⟩
  | 7 => ⟨S224x224, .f32⟩
  | 8 => ⟨S224x224, .f32⟩
  | 9 => ⟨S1x224x224, .f32⟩
  | 10 => ⟨S1x224x224, .f32⟩
  | 11 => ⟨S2x224x224, .f32⟩
  | 12 => ⟨S2x224x224, .f32⟩
  | 13 => ⟨S_, .f32⟩
  | 14 => ⟨S224x224, .f32⟩
  | 15 => ⟨S1x224x224, .f32⟩
  | 16 => ⟨S1x224x224, .f32⟩
  | 17 => ⟨S_, .f32⟩
  | 18 => ⟨S1x224x224, .f32⟩
  | 19 => ⟨S1x224x224, .f32⟩
  | 20 => ⟨S2x224x224, .f32⟩
  | 21 => ⟨S2x224x224, .f32⟩
  | 22 => ⟨S1x2x224x224, .f32⟩
  | 23 => ⟨S2x2x224x224, .f32⟩
  | 24 => ⟨S2x98x224x224, .f32⟩
  | 25 => ⟨S2x98x112x2x112x2, .f32⟩
  | 26 => ⟨S2x98x2x2x112x112, .f32⟩
  | 27 => ⟨S2x392x112x112, .f32⟩
  | 28 => ⟨S_, .i32⟩
  | 29 => ⟨S_, .i32⟩
  | 30 => ⟨S_, .f32⟩
  | 31 => ⟨S_, .f32⟩
  | 32 => ⟨S_, .f32⟩
  | 33 => ⟨S_, .f32⟩
  | 34 => ⟨S_, .f32⟩
  | 35 => ⟨S15, .f32⟩
  | 36 => ⟨S_, .f32⟩
  | 37 => ⟨S15, .f32⟩
  | 38 => ⟨S15, .f32⟩
  | 39 => ⟨S1, .f32⟩
  | 40 => ⟨S_, .f32⟩
  | 41 => ⟨S15, .f32⟩
  | 42 => ⟨S15, .f32⟩
  | 43 => ⟨S15, .f32⟩
  | 44 => ⟨S15, .f32⟩
  | 45 => ⟨S1, .f32⟩
  | 46 => ⟨S15, .f32⟩
  | 47 => ⟨S15, .f32⟩
  | 48 => ⟨S15, .f32⟩
  | 49 => ⟨S1, .f32⟩
  | 50 => ⟨S16, .f32⟩
  | 51 => ⟨S16, .f32⟩
  | 52 => ⟨S16, .i32⟩
  | 53 => ⟨S_, .i32⟩
  | 54 => ⟨S_, .i32⟩
  | 55 => ⟨S_, .f32⟩
  | 56 => ⟨S_, .f32⟩
  | 57 => ⟨S_, .f32⟩
  | 58 => ⟨S_, .f32⟩
  | 59 => ⟨S_, .f32⟩
  | 60 => ⟨S15, .f32⟩
  | 61 => ⟨S_, .f32⟩
  | 62 => ⟨S15, .f32⟩
  | 63 => ⟨S15, .f32⟩
  | 64 => ⟨S1, .f32⟩
  | 65 => ⟨S_, .f32⟩
  | 66 => ⟨S15, .f32⟩
  | 67 => ⟨S15, .f32⟩
  | 68 => ⟨S15, .f32⟩
  | 69 => ⟨S15, .f32⟩
  | 70 => ⟨S1, .f32⟩
  | 71 => ⟨S15, .f32⟩
  | 72 => ⟨S15, .f32⟩
  | 73 => ⟨S15, .f32⟩
  | 74 => ⟨S1, .f32⟩
  | 75 => ⟨S16, .f32⟩
  | 76 => ⟨S16, .f32⟩
  | 77 => ⟨S16, .i32⟩
  | 78 => ⟨S16x16, .i32⟩
  | 79 => ⟨S16x16, .i32⟩
  | 80 => ⟨S256, .i32⟩
  | 81 => ⟨S256, .i32⟩
  | 82 => ⟨S_, .i32⟩
  | 83 => ⟨S256, .i32⟩
  | 84 => ⟨S256, .i32⟩
  | 85 => ⟨S256, .i32⟩
  | 86 => ⟨S_, .i32⟩
  | 87 => ⟨S16x16, .i32⟩
  | 88 => ⟨S16x16, .i1⟩
  | 89 => ⟨S_, .i32⟩
  | 90 => ⟨S16x16, .i32⟩
  | 91 => ⟨S16x16, .i32⟩
  | 92 => ⟨S16x16, .i32⟩
  | 93 => ⟨S_, .i32⟩
  | 94 => ⟨S16x16, .i32⟩
  | 95 => ⟨S16x16, .i1⟩
  | 96 => ⟨S_, .i32⟩
  | 97 => ⟨S16x16, .i32⟩
  | 98 => ⟨S16x16, .i32⟩
  | 99 => ⟨S16x16, .i32⟩
  | 100 => ⟨S16x16x1, .i32⟩
  | 101 => ⟨S16x16x1, .i32⟩
  | 102 => ⟨S16x16x2, .i32⟩
  | 103 => ⟨S2x392x16x16, .f32⟩
  | 104 => ⟨S2x392x256, .f32⟩
  | 105 => ⟨S2x392x12544, .f32⟩
  | 106 => ⟨S2x392x12544, .f32⟩
  | 107 => ⟨S_, .f32⟩
  | 108 => ⟨S2x12544, .f32⟩
  | 109 => ⟨S2x392x256, .f32⟩
  | 110 => ⟨S_, .f32⟩
  | 111 => ⟨S2x256, .f32⟩
  | 112 => ⟨S2x12544x256, .f32⟩
  | 113 => ⟨S2x12544x1, .f32⟩
  | 114 => ⟨S2x1x256, .f32⟩
  | 115 => ⟨S2x12544x256, .f32⟩
  | 116 => ⟨S2x12544x256, .f32⟩
  | 117 => ⟨S2x12544x256, .f32⟩
  | 118 => ⟨S_, .f32⟩
  | 119 => ⟨S2x12544x256, .f32⟩
  | 120 => ⟨S2x12544x256, .f32⟩
  | 121 => ⟨S2x12544x256, .f32⟩
  | 122 => ⟨S2x12544x256, .f32⟩
  | 123 => ⟨S2x12544x4, .f32⟩
  | 124 => ⟨S2x12544x4, .i32⟩
  | 125 => ⟨S_, .i32⟩
  | 126 => ⟨S2x12544x4, .i32⟩
  | 127 => ⟨S2x12544x4, .i1⟩
  | _ => ⟨S2x96x224x224, .f32⟩

abbrev hbmTy0_1 (i : Nat) : BufTy := match i % 128 with
  | 0 => ⟨S_, .i32⟩
  | 1 => ⟨S2x12544x4, .i32⟩
  | 2 => ⟨S2x12544x4, .i32⟩
  | 3 => ⟨S2x12544x4, .i32⟩
  | 4 => ⟨S2x12544x4x1, .i32⟩
  | 5 => ⟨S2x12544x4, .i32⟩
  | 6 => ⟨S_, .i32⟩
  | 7 => ⟨S2x12544x4, .i32⟩
  | 8 => ⟨S2x12544x4, .i1⟩
  | 9 => ⟨S_, .i32⟩
  | 10 => ⟨S2x12544x4, .i32⟩
  | 11 => ⟨S2x12544x4, .i32⟩
  | 12 => ⟨S2x12544x4, .i32⟩
  | 13 => ⟨S2x12544x4x1, .i32⟩
  | 14 => ⟨S2x392x12544x4, .f32⟩
  | 15 => ⟨S392x2x12544, .f32⟩
  | 16 => ⟨S2x392x12544, .f32⟩
  | 17 => ⟨S1x392x1, .f32⟩
  | 18 => ⟨S2x392x12544, .f32⟩
  | 19 => ⟨S2x392x12544, .f32⟩
  | 20 => ⟨S2x392x112x112, .f32⟩
  | 21 => ⟨S2x98x2x2x112x112, .f32⟩
  | 22 => ⟨S2x98x112x2x112x2, .f32⟩
  | 23 => ⟨S2x98x224x224, .f32⟩
  | 24 => ⟨S96x2x224x224, .f32⟩
  | 25 => ⟨S2x96x224x224, .f32⟩
  | 26 => ⟨S1x96x1x1, .f32⟩
  | 27 => ⟨S2x96x224x224, .f32⟩
  | 28 => ⟨S2x96x224x224, .f32⟩
  | _ => ⟨S2x96x224x224, .f32⟩

abbrev hbmTy (i : Nat) : BufTy := match i / 128 with
  | 0 => hbmTy0_0 i
  | 1 => hbmTy0_1 i
  | _ => ⟨S2x96x224x224, .f32⟩

abbrev bufTy : (tb : Table) → Fin (tcTables nBuf tb) → BufTy
  | .hbm, ⟨i, _⟩ => hbmTy i
  | _, _ => ⟨S2x96x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c : Ref sig .tc := ⟨.hbm, 28, rfl⟩
abbrev main_c_1 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_cst : Ref sig .tc := ⟨.hbm, 33, rfl⟩
abbrev main_call0_v3 : Ref sig .tc := ⟨.hbm, 34, rfl⟩
abbrev main_call0_v4 : Ref sig .tc := ⟨.hbm, 35, rfl⟩
abbrev main_call0_cst_0 : Ref sig .tc := ⟨.hbm, 36, rfl⟩
abbrev main_call0_v5 : Ref sig .tc := ⟨.hbm, 37, rfl⟩
abbrev main_call0_v6 : Ref sig .tc := ⟨.hbm, 38, rfl⟩
abbrev main_call0_v7 : Ref sig .tc := ⟨.hbm, 39, rfl⟩
abbrev main_call0_cst_1 : Ref sig .tc := ⟨.hbm, 40, rfl⟩
abbrev main_call0_v8 : Ref sig .tc := ⟨.hbm, 41, rfl⟩
abbrev main_call0_v9 : Ref sig .tc := ⟨.hbm, 42, rfl⟩
abbrev main_call0_v10 : Ref sig .tc := ⟨.hbm, 43, rfl⟩
abbrev main_call0_v11 : Ref sig .tc := ⟨.hbm, 44, rfl⟩
abbrev main_call0_v12 : Ref sig .tc := ⟨.hbm, 45, rfl⟩
abbrev main_call0_v13 : Ref sig .tc := ⟨.hbm, 46, rfl⟩
abbrev main_call0_v14 : Ref sig .tc := ⟨.hbm, 47, rfl⟩
abbrev main_call0_v15 : Ref sig .tc := ⟨.hbm, 48, rfl⟩
abbrev main_call0_v16 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_c_2 : Ref sig .tc := ⟨.hbm, 53, rfl⟩
abbrev main_c_3 : Ref sig .tc := ⟨.hbm, 54, rfl⟩
abbrev main_call2_v0 : Ref sig .tc := ⟨.hbm, 55, rfl⟩
abbrev main_call2_v1 : Ref sig .tc := ⟨.hbm, 56, rfl⟩
abbrev main_call2_v2 : Ref sig .tc := ⟨.hbm, 57, rfl⟩
abbrev main_call2_cst : Ref sig .tc := ⟨.hbm, 58, rfl⟩
abbrev main_call2_v3 : Ref sig .tc := ⟨.hbm, 59, rfl⟩
abbrev main_call2_v4 : Ref sig .tc := ⟨.hbm, 60, rfl⟩
abbrev main_call2_cst_0 : Ref sig .tc := ⟨.hbm, 61, rfl⟩
abbrev main_call2_v5 : Ref sig .tc := ⟨.hbm, 62, rfl⟩
abbrev main_call2_v6 : Ref sig .tc := ⟨.hbm, 63, rfl⟩
abbrev main_call2_v7 : Ref sig .tc := ⟨.hbm, 64, rfl⟩
abbrev main_call2_cst_1 : Ref sig .tc := ⟨.hbm, 65, rfl⟩
abbrev main_call2_v8 : Ref sig .tc := ⟨.hbm, 66, rfl⟩
abbrev main_call2_v9 : Ref sig .tc := ⟨.hbm, 67, rfl⟩
abbrev main_call2_v10 : Ref sig .tc := ⟨.hbm, 68, rfl⟩
abbrev main_call2_v11 : Ref sig .tc := ⟨.hbm, 69, rfl⟩
abbrev main_call2_v12 : Ref sig .tc := ⟨.hbm, 70, rfl⟩
abbrev main_call2_v13 : Ref sig .tc := ⟨.hbm, 71, rfl⟩
abbrev main_call2_v14 : Ref sig .tc := ⟨.hbm, 72, rfl⟩
abbrev main_call2_v15 : Ref sig .tc := ⟨.hbm, 73, rfl⟩
abbrev main_call2_v16 : Ref sig .tc := ⟨.hbm, 74, rfl⟩
abbrev main_v24 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_c_4 : Ref sig .tc := ⟨.hbm, 82, rfl⟩
abbrev main_v31 : Ref sig .tc := ⟨.hbm, 83, rfl⟩
abbrev main_v32 : Ref sig .tc := ⟨.hbm, 84, rfl⟩
abbrev main_v33 : Ref sig .tc := ⟨.hbm, 85, rfl⟩
abbrev main_c_5 : Ref sig .tc := ⟨.hbm, 86, rfl⟩
abbrev main_v34 : Ref sig .tc := ⟨.hbm, 87, rfl⟩
abbrev main_v35 : Ref sig .tc := ⟨.hbm, 88, rfl⟩
abbrev main_c_6 : Ref sig .tc := ⟨.hbm, 89, rfl⟩
abbrev main_v36 : Ref sig .tc := ⟨.hbm, 90, rfl⟩
abbrev main_v37 : Ref sig .tc := ⟨.hbm, 91, rfl⟩
abbrev main_v38 : Ref sig .tc := ⟨.hbm, 92, rfl⟩
abbrev main_c_7 : Ref sig .tc := ⟨.hbm, 93, rfl⟩
abbrev main_v39 : Ref sig .tc := ⟨.hbm, 94, rfl⟩
abbrev main_v40 : Ref sig .tc := ⟨.hbm, 95, rfl⟩
abbrev main_c_8 : Ref sig .tc := ⟨.hbm, 96, rfl⟩
abbrev main_v41 : Ref sig .tc := ⟨.hbm, 97, rfl⟩
abbrev main_v42 : Ref sig .tc := ⟨.hbm, 98, rfl⟩
abbrev main_v43 : Ref sig .tc := ⟨.hbm, 99, rfl⟩
abbrev main_v44 : Ref sig .tc := ⟨.hbm, 100, rfl⟩
abbrev main_v45 : Ref sig .tc := ⟨.hbm, 101, rfl⟩
abbrev main_v46 : Ref sig .tc := ⟨.hbm, 102, rfl⟩
abbrev main_v47 : Ref sig .tc := ⟨.hbm, 103, rfl⟩
abbrev main_v48 : Ref sig .tc := ⟨.hbm, 104, rfl⟩
abbrev main_v49 : Ref sig .tc := ⟨.hbm, 105, rfl⟩
abbrev main_v50 : Ref sig .tc := ⟨.hbm, 106, rfl⟩
abbrev main_cst_9 : Ref sig .tc := ⟨.hbm, 107, rfl⟩
abbrev main_v51 : Ref sig .tc := ⟨.hbm, 108, rfl⟩
abbrev main_v52 : Ref sig .tc := ⟨.hbm, 109, rfl⟩
abbrev main_cst_10 : Ref sig .tc := ⟨.hbm, 110, rfl⟩
abbrev main_v53 : Ref sig .tc := ⟨.hbm, 111, rfl⟩
abbrev main_v54 : Ref sig .tc := ⟨.hbm, 112, rfl⟩
abbrev main_v55 : Ref sig .tc := ⟨.hbm, 113, rfl⟩
abbrev main_v56 : Ref sig .tc := ⟨.hbm, 114, rfl⟩
abbrev main_v57 : Ref sig .tc := ⟨.hbm, 115, rfl⟩
abbrev main_v58 : Ref sig .tc := ⟨.hbm, 116, rfl⟩
abbrev main_v59 : Ref sig .tc := ⟨.hbm, 117, rfl⟩
abbrev main_cst_11 : Ref sig .tc := ⟨.hbm, 118, rfl⟩
abbrev main_v60 : Ref sig .tc := ⟨.hbm, 119, rfl⟩
abbrev main_v61 : Ref sig .tc := ⟨.hbm, 120, rfl⟩
abbrev main_v62 : Ref sig .tc := ⟨.hbm, 121, rfl⟩
abbrev main_v63 : Ref sig .tc := ⟨.hbm, 122, rfl⟩
abbrev main_values : Ref sig .tc := ⟨.hbm, 123, rfl⟩
abbrev main_indices : Ref sig .tc := ⟨.hbm, 124, rfl⟩
abbrev main_c_12 : Ref sig .tc := ⟨.hbm, 125, rfl⟩
abbrev main_v64 : Ref sig .tc := ⟨.hbm, 126, rfl⟩
abbrev main_v65 : Ref sig .tc := ⟨.hbm, 127, rfl⟩
abbrev main_c_13 : Ref sig .tc := ⟨.hbm, 128, rfl⟩
abbrev main_v66 : Ref sig .tc := ⟨.hbm, 129, rfl⟩
abbrev main_v67 : Ref sig .tc := ⟨.hbm, 130, rfl⟩
abbrev main_v68 : Ref sig .tc := ⟨.hbm, 131, rfl⟩
abbrev main_v69 : Ref sig .tc := ⟨.hbm, 132, rfl⟩
abbrev main_v70 : Ref sig .tc := ⟨.hbm, 133, rfl⟩
abbrev main_c_14 : Ref sig .tc := ⟨.hbm, 134, rfl⟩
abbrev main_v71 : Ref sig .tc := ⟨.hbm, 135, rfl⟩
abbrev main_v72 : Ref sig .tc := ⟨.hbm, 136, rfl⟩
abbrev main_c_15 : Ref sig .tc := ⟨.hbm, 137, rfl⟩
abbrev main_v73 : Ref sig .tc := ⟨.hbm, 138, rfl⟩
abbrev main_v74 : Ref sig .tc := ⟨.hbm, 139, rfl⟩
abbrev main_v75 : Ref sig .tc := ⟨.hbm, 140, rfl⟩
abbrev main_v76 : Ref sig .tc := ⟨.hbm, 141, rfl⟩
abbrev main_v77 : Ref sig .tc := ⟨.hbm, 142, rfl⟩
abbrev main_v78 : Ref sig .tc := ⟨.hbm, 143, rfl⟩
abbrev main_v79 : Ref sig .tc := ⟨.hbm, 144, rfl⟩
abbrev main_v80 : Ref sig .tc := ⟨.hbm, 145, rfl⟩
abbrev main_v81 : Ref sig .tc := ⟨.hbm, 146, rfl⟩
abbrev main_v82 : Ref sig .tc := ⟨.hbm, 147, rfl⟩
abbrev main_v83 : Ref sig .tc := ⟨.hbm, 148, rfl⟩
abbrev main_v84 : Ref sig .tc := ⟨.hbm, 149, rfl⟩
abbrev main_v85 : Ref sig .tc := ⟨.hbm, 150, rfl⟩
abbrev main_v86 : Ref sig .tc := ⟨.hbm, 151, rfl⟩
abbrev main_v87 : Ref sig .tc := ⟨.hbm, 152, rfl⟩
abbrev main_v88 : Ref sig .tc := ⟨.hbm, 153, rfl⟩
abbrev main_v89 : Ref sig .tc := ⟨.hbm, 154, rfl⟩
abbrev main_v90 : Ref sig .tc := ⟨.hbm, 155, rfl⟩
abbrev main_v91 : Ref sig .tc := ⟨.hbm, 156, rfl⟩

abbrev nD : Nat := 1
abbrev τ : Topo := Topo.v7x

variable {F : FTy → Type} [FloatOps F]
-- ==== Proof.Run.lean ====
/-
  The idealized kernel's run, its result read: the launch's frame, with the returned array's contents kept beside the arguments'.
-/
module

public import proofs.«01_k».proof.Proof.Gen.KernelIdeal.Frame

@[expose] public section

set_option maxRecDepth 16384

noncomputable section

namespace Cert.KernelIdeal.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every fair execution ends with the returned array at the last boundary's contents and
    the arguments as launched. -/
theorem run : θ_run defs (onTc (τ := τ) (main (F := F))) ⟨m, fun _ => 0, ρ⟩ (fun r => ∀ c : Dev nD,
      r.2.mem ((c.tc : Thread nD τ).loc main_v48) = W9 m ρ c (Proc.devRef .tc main_v48)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun c => by
        dsimp only [Pipeline.Seg.post, hseg, Pipeline.HostSeg.ofOps]
        iintro ⟨Hheld, Hreg, Howed⟩
        isplitl [Hheld Hreg]
        · isplitl [Hheld]; · iexact Hheld
          iexact Hreg
        iexact Howed⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hheld, -, Howed, -, Hreg, -⟩, -⟩
      imodintro
      isplitl [Hheld]; · iexact Hheld
      isplitl [Hreg]; · iexists _; iexact Hreg
      iexists ∅; iexact Howed)
    (QY := fun c s => ∀ b ∈ Pipeline.ucRefs τ sig, s.mem (((c : Thread nD τ)).1, b) = W9 m ρ c b)
    (hfin := fun c s' => by
      iintro ⟨⟨Hheld, -⟩, HSI⟩
      unfold StableHlo.held
      imodintro
      iapply (pointsTo_read_all (Pipeline.ucRefs τ sig) (fun b => (((c : Thread nD τ)).1, b)) (W9 m ρ c) s')
      isplitl [Hheld] <;> iassumption)
    (hQ := fun s h _ c =>
      ⟨h c _ (mem_uc main_v48 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c)⟩)

end Cert.KernelIdeal.Value

end
-- ==== Proof.Host.lean ====
/-
  The kernel's host stages as functions of the arguments, and the contents of the arrays the two launches take and leave.
-/
module

public import proofs.«01_k».proof.Proof.Gen.KernelIdeal.Frame
public import proofs.«01_k».proof.Proof.Gen.ReferenceIdeal.Read

@[expose] public section

set_option maxRecDepth 16384

noncomputable section

namespace Cert.KernelIdeal.Value

open Cert.KernelIdeal Cert.KernelIdeal.Gen
open Idealize.ShloMosaic Idealize.ShloMosaic.TcCoe Idealize.ShloMosaic.Tactic Idealize.ShloMosaic.StableHlo

/-- The row number of a pixel, and its column number. -/
def rowOf : FVec Ideal S224x224 .f32 := broadcastInDim S224x224 ![0] bcast_S224_S224x224_0 (sitofp .f32 (iotaInDim S224 32 0))
/-- The column number of a pixel. -/
def colOf : FVec Ideal S224x224 .f32 := broadcastInDim S224x224 ![1] bcast_S224_S224x224_1 (sitofp .f32 (iotaInDim S224 32 0))

/-- The length of the pixel's position, kept off zero. -/
def lengthOf : FVec Ideal S224x224 .f32 :=
  maximumf (Host.sqrt (addf (mulf rowOf rowOf) (mulf colOf colOf)))
    (broadcastInDim S224x224 ![] bcast_S_S224x224 (constant S_ .f32 0x2B8CBCCC#32))

/-- The two coordinate channels. -/
def coords : FVec Ideal S2x224x224 .f32 :=
  concatenate S2x224x224 0
    [⟨S1x224x224, broadcastInDim S1x224x224 ![1, 2] bcast_S224x224_S1x224x224_1_2 (Host.divf rowOf lengthOf)⟩,
     ⟨S1x224x224, broadcastInDim S1x224x224 ![1, 2] bcast_S224x224_S1x224x224_1_2 (Host.divf colOf lengthOf)⟩]
    concatenates_S1x224x224_S1x224x224_S2x224x224_d0

/-- The image with the coordinate channels appended. -/
def image (x : FVec Ideal S2x96x224x224 .f32) : FVec Ideal S2x98x224x224 .f32 :=
  concatenate S2x98x224x224 1
    [⟨S2x96x224x224, x⟩,
     ⟨S2x2x224x224, broadcastInDim S2x2x224x224 ![0, 1, 2, 3] bcast_S1x2x224x224_S2x2x224x224_0_1_2_3
        (broadcastInDim S1x2x224x224 ![1, 2, 3] bcast_S2x224x224_S1x2x224x224_1_2_3 coords)⟩]
    concatenates_S2x96x224x224_S2x2x224x224_S2x98x224x224_d1

/-- The tokens: one row of 392 channels per two-by-two pixel block. -/
def tokens (i : FVec Ideal S2x98x224x224 .f32) : FVec Ideal S2x12544x392 .f32 :=
  shapeCast S2x12544x392 (transpose S2x112x112x98x2x2 [0, 2, 4, 1, 3, 5]
    (shapeCast S2x98x112x2x112x2 i shapeCasts_S2x98x224x224_S2x98x112x2x112x2)
    transposes_S2x98x112x2x112x2_S2x112x112x98x2x2_0_2_4_1_3_5) shapeCasts_S2x112x112x98x2x2_S2x12544x392

/-- The sixteen sampled positions of one axis: the reference's own stage. -/
def ticks : IVec S16 32 := Cert.ReferenceIdeal.Read.val_main_v23 (F := Ideal)

/-- The sampled tokens' numbers. -/
def places : IVec S256 32 :=
  shapeCast S256 (addi
    (broadcastInDim S16x16 ![0, 1] bcast_S16x1_S16x16_0_1
      (muli (broadcastInDim S16x1 ![0] bcast_S16_S16x1_0 ticks) (broadcastInDim S16x1 ![] bcast_S_S16x1 (constantI S_ 32 112#32))))
    (broadcastInDim S16x16 ![0, 1] bcast_S1x16_S16x16_0_1 (broadcastInDim S1x16 ![1] bcast_S16_S1x16_1 ticks)))
    shapeCasts_S16x16_S256

/-- The number taken from a list of numbers, a negative one counted from the end. -/
def wrapped (p : IVec S256 32) : IVec S256x1 32 :=
  broadcastInDim S256x1 ![0] bcast_S256_S256x1_0
    (select (cmpi .slt p (broadcastInDim S256 ![] bcast_S_S256 (constantI S_ 32 0#32)))
      (addi p (broadcastInDim S256 ![] bcast_S_S256 (constantI S_ 32 12544#32))) p)

/-- Rows of an array of tokens, a number out of range giving a fill. -/
def taken (t : FVec Ideal S2x12544x392 .f32) (p : IVec S256 32) : FVec Ideal S2x256x392 .f32 :=
  select (broadcastInDim S2x256x392 ![1] bcast_S256_S2x256x392_1
      (Host.reduce IntOp.andi
        (andi (cmpi .sge (wrapped p) (broadcastInDim S256x1 ![] bcast_S_S256x1 (constantI S_ 32 0#32)))
          (cmpi .sle (wrapped p) (broadcastInDim S256x1 ![0, 1] bcast_S1x1_S256x1_0_1
            (broadcastInDim S1x1 ![1] bcast_S1_S1x1_1 (constantI S1 32 12543#32)))))
        (constantI S_ 1 1#1) reducesTo_S256x1_S256_d1 h_S_))
    (Host.gather gather_S2x12544x392_S256x1_S2x256x392_02_1_n_n_1_1_21392 t (wrapped p))
    (broadcastInDim S2x256x392 ![] bcast_S_S2x256x392 (constant S_ .f32 0x7FC00000#32))

/-- The folded weight. -/
def weight (wc : FVec Ideal S392x392x4 .f32) (wp : FVec Ideal S96x98 .f32) : FVec Ideal S392x1536 .f32 :=
  shapeCast S392x1536 (transpose S392x4x4x96 [1, 2, 0, 3]
    (Host.dotGeneral dot_S98x4x392x4_S96x98_S4x392x4x96_0_1_123_0_n_n none
      (shapeCast S98x4x392x4 wc shapeCasts_S392x392x4_S98x4x392x4) wp)
    transposes_S4x392x4x96_S392x4x4x96_1_2_0_3) shapeCasts_S392x4x4x96_S392x1536

/-- The folded bias. -/
def bias (bc : FVec Ideal S392 .f32) (wp : FVec Ideal S96x98 .f32) (bp : FVec Ideal S96 .f32) : FVec Ideal S1x384 .f32 :=
  shapeCast S1x384 (addf
    (Host.dotGeneral dot_S98x4_S96x98_S4x96_0_1_1_0_n_n none (shapeCast S98x4 bc shapeCasts_S392_S98x4) wp)
    (broadcastInDim S4x96 ![0, 1] bcast_S1x96_S4x96_0_1 (broadcastInDim S1x96 ![1] bcast_S96_S1x96_1 bp)))
    shapeCasts_S4x96_S1x384

/-- The tokens' result rows put back as an image. -/
def unfolded (y : FVec Ideal S2x12544x384 .f32) : FVec Ideal S2x96x224x224 .f32 :=
  shapeCast S2x96x224x224 (transpose S2x96x112x2x112x2 [0, 5, 1, 3, 2, 4]
    (shapeCast S2x112x112x2x2x96 y shapeCasts_S2x12544x384_S2x112x112x2x2x96)
    transposes_S2x112x112x2x2x96_S2x96x112x2x112x2_0_5_1_3_2_4) shapeCasts_S2x96x112x2x112x2_S2x96x224x224

/-! ## Each stretch of host operations, read -/

section
variable (V : Valuation τ sig (Elt Ideal))

/-- The first stretch of host operations leaves the tokens. -/
theorem tokens_read : after hostOps0 V (Proc.devRef .tc main_v20) = tokens (image (V (Proc.devRef .tc main_arg0))) := by
  unfold hostOps0
  after_results
  rfl

/-- The first sampled position is 0. -/
theorem lo_read : after hostOps0 V (Proc.devRef .tc main_c) = constantI S_ 32 0#32 := by
  unfold hostOps0
  after_results

/-- The last sampled position is 111. -/
theorem hi_read : after hostOps0 V (Proc.devRef .tc main_c_0) = constantI S_ 32 111#32 := by
  unfold hostOps0
  after_results

/-- The evenly spaced positions are the reference's. -/
theorem line_read (h0 : V (Proc.devRef .tc main_c) = constantI S_ 32 0#32) (h1 : V (Proc.devRef .tc main_c_0) = constantI S_ 32 111#32) :
    after hostOps0_1 V (Proc.devRef .tc main_v21) = Cert.ReferenceIdeal.Read.val_main_v21 (F := Ideal) := by
  unfold hostOps0_1
  after_results
  dsimp only [TRef.of]
  rw [h0, h1]
  rfl

/-- The rounded positions are the reference's. -/
theorem round_read (h : V (Proc.devRef .tc main_v21) = Cert.ReferenceIdeal.Read.val_main_v21 (F := Ideal)) :
    after hostOps0_2 V (Proc.devRef .tc main_v22) = Cert.ReferenceIdeal.Read.val_main_v22 (F := Ideal) := by
  unfold hostOps0_2
  after_results
  dsimp only [TRef.of]
  rw [h]
  rfl

/-- The sampled tokens' numbers, from the rounded positions. -/
theorem places_read (h : V (Proc.devRef .tc main_v22) = Cert.ReferenceIdeal.Read.val_main_v22 (F := Ideal)) :
    after hostOps0_3 V (Proc.devRef .tc main_v31) = places := by
  unfold hostOps0_3
  after_results
  rw [h]
  rfl

/-- The samples, taken from the tokens. -/
theorem taken_read :
    after hostOps0_4 V (Proc.devRef .tc main_v32) = taken (V (Proc.devRef .tc main_v20)) (V (Proc.devRef .tc main_v31)) := by
  unfold hostOps0_4
  after_results
  rfl

/-- The samples with channels first. -/
theorem turned_read :
    after hostOps0_5 V (Proc.devRef .tc main_v33)
      = transpose S2x392x256 [0, 2, 1] (V (Proc.devRef .tc main_v32) : FVec Ideal S2x256x392 .f32) transposes_S2x256x392_S2x392x256_0_2_1 := by
  unfold hostOps0_5
  after_results

/-- The folded weight, from the two weights. -/
theorem weight_read :
    after hostOps0_5 V (Proc.devRef .tc main_v37) = weight (V (Proc.devRef .tc main_arg1)) (V (Proc.devRef .tc main_arg3)) := by
  unfold hostOps0_5
  after_results
  rfl

/-- The folded bias, from the second weight and the two biases. -/
theorem bias_read :
    after hostOps0_5 V (Proc.devRef .tc main_v43)
      = bias (V (Proc.devRef .tc main_arg2)) (V (Proc.devRef .tc main_arg3)) (V (Proc.devRef .tc main_arg4)) := by
  unfold hostOps0_5
  after_results
  rfl

/-- The result image, from the second launch's rows. -/
theorem unfolded_read :
    after hostOps2 V (Proc.devRef .tc main_v48) = unfolded (V (Proc.devRef .tc main_v45)) := by
  unfold hostOps2
  after_results
  rfl

end

/-! ## What the launches find -/

variable (m : (ℓ : Loc nD τ sig) → Buf (Elt Ideal) ℓ) (ρ : Dev nD → PrngReg) (c : Dev nD)

/-- The sampled numbers before the samples are taken. -/
theorem W4_places : W4 m ρ c (Proc.devRef .tc main_v31) = places := by
  refine places_read _ (round_read _ (line_read _ ?_ ?_))
  · exact lo_read _
  · exact hi_read _

/-- The tokens before the samples are taken. -/
theorem W4_tokens : W4 m ρ c (Proc.devRef .tc main_v20) = tokens (image (m ((c : Thread nD τ).loc main_arg0))) := by
  rw [W4_of m ρ c main_v20 (by decide), W3_of m ρ c main_v20 (by decide), W2_of m ρ c main_v20 (by decide)]
  exact tokens_read _

/-- The tokens at the launches. -/
theorem W6_tokens : W6 m ρ c (Proc.devRef .tc main_v20) = tokens (image (m ((c : Thread nD τ).loc main_arg0))) := by
  rw [W6_of m ρ c main_v20 (by decide), W5_of m ρ c main_v20 (by decide)]
  exact W4_tokens m ρ c

/-- The samples once they are taken. -/
theorem W5_samples : W5 m ρ c (Proc.devRef .tc main_v32) = taken (tokens (image (m ((c : Thread nD τ).loc main_arg0)))) places := by
  refine (taken_read _).trans ?_
  rw [W4_tokens, W4_places]

/-- The samples at the launches. -/
theorem W6_samples : W6 m ρ c (Proc.devRef .tc main_v32) = taken (tokens (image (m ((c : Thread nD τ).loc main_arg0)))) places := by
  rw [W6_of m ρ c main_v32 (by decide)]
  exact W5_samples m ρ c

/-- The samples with channels first, at the launches. -/
theorem W6_turned : W6 m ρ c (Proc.devRef .tc main_v33)
    = transpose S2x392x256 [0, 2, 1] (taken (tokens (image (m ((c : Thread nD τ).loc main_arg0)))) places)
        transposes_S2x256x392_S2x392x256_0_2_1 := by
  refine (turned_read _).trans ?_
  rw [W5_samples]

/-- The folded weight at the launches. -/
theorem W6_weight : W6 m ρ c (Proc.devRef .tc main_v37)
    = weight (m ((c : Thread nD τ).loc main_arg1)) (m ((c : Thread nD τ).loc main_arg3)) := by
  refine (weight_read _).trans ?_
  rw [W5_args m ρ c main_arg1 (by decide), W5_args m ρ c main_arg3 (by decide)]

/-- The folded bias at the launches. -/
theorem W6_bias : W6 m ρ c (Proc.devRef .tc main_v43)
    = bias (m ((c : Thread nD τ).loc main_arg2)) (m ((c : Thread nD τ).loc main_arg3)) (m ((c : Thread nD τ).loc main_arg4)) := by
  refine (bias_read _).trans ?_
  rw [W5_args m ρ c main_arg2 (by decide), W5_args m ρ c main_arg3 (by decide), W5_args m ρ c main_arg4 (by decide)]

/-- The result buffer at the end holds the second launch's rows, put back as an image. -/
theorem W9_result : W9 m ρ c (Proc.devRef .tc main_v48) = unfolded (W8 m ρ c (Proc.devRef .tc main_v45)) :=
  unfolded_read _

end Cert.KernelIdeal.Value

end
-- ==== Proof.TopFour.lean ====
/-
  The four greatest entries of a finite row, chosen one after another, are the four a stable descending sort puts first.

  `pick f k` is the place chosen in round `k`: the first place of the greatest entry of `f` after the places chosen
  in the earlier rounds were set to minus infinity. A row with no entry at minus infinity never chooses a place twice, and the
  choices come out in the order of a stable sort by descending entry.
-/
module

public import Idealize.ShloMosaic.Lib.SortPrefix
public import Mathlib.Data.EReal.Basic

@[expose] public section

noncomputable section

namespace Cert.TopFour

open Idealize.ShloMosaic

variable {n : Nat}

/-- Place `p` holds the greatest entry, and no earlier place does. -/
structure IsFirst (f : Fin n → EReal) (p : Fin n) : Prop where
  le : ∀ q, f q ≤ f p
  lt : ∀ q, q < p → f q ≠ f p

/-- There is one first place of the greatest entry. -/
theorem IsFirst.unique {f : Fin n → EReal} {p q : Fin n} (hp : IsFirst f p) (hq : IsFirst f q) : p = q := by
  rcases lt_trichotomy p q with h | h | h
  · exact absurd (le_antisymm (hq.le p) (hp.le q)) (hq.lt p h)
  · exact h
  · exact absurd (le_antisymm (hp.le q) (hq.le p)) (hp.lt q h)

/-- Every row has a first place of the greatest entry. -/
theorem exists_isFirst [NeZero n] (f : Fin n → EReal) : ∃ p, IsFirst f p := by
  classical
  obtain ⟨m, -, hm⟩ := Finset.exists_max_image (Finset.univ : Finset (Fin n)) f ⟨0, Finset.mem_univ _⟩
  let S : Finset (Fin n) := Finset.univ.filter fun q => f q = f m
  have hS : S.Nonempty := ⟨m, by simp [S]⟩
  have hmem : f (S.min' hS) = f m := by
    have := S.min'_mem hS
    simpa [S] using this
  refine ⟨S.min' hS, ⟨fun q => hmem ▸ hm q (Finset.mem_univ _), fun q hq h => ?_⟩⟩
  have : S.min' hS ≤ q := S.min'_le q (by simp [S, h, hmem])
  exact absurd hq (not_lt.mpr this)

/-- The first place of the greatest entry. -/
def first [NeZero n] (f : Fin n → EReal) : Fin n := Classical.choose (exists_isFirst f)

/-- The chosen place is the first one of the greatest entry. -/
theorem isFirst_first [NeZero n] (f : Fin n → EReal) : IsFirst f (first f) := Classical.choose_spec (exists_isFirst f)

/-- A first place of the greatest entry is the chosen one. -/
theorem eq_first [NeZero n] {f : Fin n → EReal} {p : Fin n} (h : IsFirst f p) : first f = p :=
  (isFirst_first f).unique h

/-- The row with place `p` set to minus infinity. -/
def mask (f : Fin n → EReal) (p : Fin n) : Fin n → EReal := fun q => if q = p then ⊥ else f q

/-- The row before round `k`. -/
def rest [NeZero n] (f : Fin n → EReal) : Nat → Fin n → EReal
  | 0 => f
  | k + 1 => mask (rest f k) (first (rest f k))

/-- The place chosen in round `k`. -/
def pick [NeZero n] (f : Fin n → EReal) (k : Nat) : Fin n := first (rest f k)

section
variable [NeZero n] {f : Fin n → EReal} (hf : ∀ q, f q ≠ ⊥)

/-- A place chosen earlier holds minus infinity. -/
theorem rest_of_picked (f : Fin n → EReal) (k : Nat) {j : Nat} (hj : j < k) : rest f k (pick f j) = ⊥ := by
  induction k with
  | zero => omega
  | succ k ih =>
    show mask (rest f k) (first (rest f k)) (pick f j) = ⊥
    unfold mask
    split
    · rfl
    · next h =>
      rcases Nat.lt_succ_iff_lt_or_eq.mp hj with h' | rfl
      · exact ih h'
      · exact absurd rfl h

/-- A place not chosen earlier holds what it held at first. -/
theorem rest_of_not_picked (f : Fin n → EReal) (k : Nat) {q : Fin n} (h : ∀ j < k, pick f j ≠ q) : rest f k q = f q := by
  induction k with
  | zero => rfl
  | succ k ih =>
    show mask (rest f k) (first (rest f k)) q = f q
    unfold mask
    rw [if_neg (fun e => h k (by omega) e.symm)]
    exact ih fun j hj => h j (by omega)

/-- Before round `k` of fewer than `n`, some place is not chosen yet. -/
theorem exists_not_picked (f : Fin n → EReal) {k : Nat} (hk : k < n) : ∃ q, ∀ j < k, pick f j ≠ q := by
  classical
  by_contra hc
  push Not at hc
  have : (Finset.univ : Finset (Fin n)) ⊆ (Finset.range k).image (pick f) := fun q _ => by
    obtain ⟨j, hj, e⟩ := hc q
    exact Finset.mem_image.mpr ⟨j, Finset.mem_range.mpr hj, e⟩
  have h1 := Finset.card_le_card this
  have h2 : ((Finset.range k).image (pick f)).card ≤ k := by
    simpa using Finset.card_image_le (s := Finset.range k) (f := pick f)
  simp at h1
  omega

include hf in
/-- A row without minus infinity has each place chosen once. -/
theorem pick_ne {k j : Nat} (hk : k < n) (hj : j < k) : pick f j ≠ pick f k := by
  intro e
  obtain ⟨q, hq⟩ := exists_not_picked f hk
  have h1 := (isFirst_first (rest f k)).le q
  rw [rest_of_not_picked f k hq] at h1
  have h2 : rest f k (first (rest f k)) = ⊥ := by
    have := rest_of_picked f k hj
    rw [e] at this
    exact this
  rw [h2] at h1
  exact hf q (le_bot_iff.mp h1)

include hf in
/-- The entry chosen in round `k`, as the row held it at first. -/
theorem rest_pick {k : Nat} (hk : k < n) : rest f k (pick f k) = f (pick f k) :=
  rest_of_not_picked f k fun _ hj => pick_ne hf hk hj

include hf in
/-- A place not chosen before round `k` is not before the place chosen in round `k`. -/
theorem not_before {k : Nat} (hk : k < n) {q : Fin n} (hq : ∀ j < k, pick f j ≠ q) :
    ¬ (f (pick f k) < f q ∨ (f q = f (pick f k) ∧ q < pick f k)) := by
  have h := isFirst_first (rest f k)
  have hp := rest_pick hf hk
  have e := rest_of_not_picked f k hq
  rintro (h1 | ⟨h1, h2⟩)
  · have := h.le q
    rw [e] at this
    exact absurd h1 (not_lt.mpr (le_trans this (le_of_eq hp)))
  · exact h.lt q h2 (by rw [e, h1]; exact hp.symm)

end

/-- A stable sort by a key alone is the sort by the key and then the place. -/
theorem stableSort_eq_lex (g : Fin n → EReal) (l : List (Fin n)) (hl : l.Pairwise (· < ·)) :
    stableSort (fun k k' => decide (g k' < g k)) l
      = stableSort (fun k k' => decide (g k' < g k) || (decide (g k = g k') && decide (k < k'))) l := by
  induction l with
  | nil => rfl
  | cons a l ih =>
    obtain ⟨ha, hl'⟩ := List.pairwise_cons.mp hl
    unfold stableSort
    rw [ih hl']
    refine insertBefore_congr _ _ a _ fun b hb => ?_
    have : a < b := ha b ((perm_stableSort _ l).mem_iff.mp hb)
    rw [decide_eq_false (p := b < a) (not_lt.mpr this.le)]
    simp

/-- A stable sort by descending key puts `pick f i` at place `i`, whatever key orders the places as `f` does. -/
theorem sortedFrom_eq_pick [NeZero n] (f g : Fin n → EReal) (hf : ∀ q, f q ≠ ⊥) (hg : ∀ q q', g q < g q' ↔ f q < f q')
    {m : Nat} (hm : m ≤ n) (i : Fin m) :
    sortedFrom (fun k k' : Fin n => decide (g k' < g k)) (i.castLE hm) = pick f i.val := by
  have heq : ∀ q q', g q = g q' ↔ f q = f q' := fun q q' => by
    constructor
    · intro h
      refine le_antisymm (not_lt.mp fun h' => ?_) (not_lt.mp fun h' => ?_)
      · exact absurd ((hg _ _).mpr h') (by rw [h]; exact lt_irrefl _)
      · exact absurd ((hg _ _).mpr h') (by rw [h]; exact lt_irrefl _)
    · intro h
      refine le_antisymm (not_lt.mp fun h' => ?_) (not_lt.mp fun h' => ?_)
      · exact absurd ((hg _ _).mp h') (by rw [h]; exact lt_irrefl _)
      · exact absurd ((hg _ _).mp h') (by rw [h]; exact lt_irrefl _)
  have hs : sortedFrom (fun k k' : Fin n => decide (g k' < g k)) (i.castLE hm)
      = sortedFrom (fun k k' : Fin n => decide (g k' < g k) || (decide (g k = g k') && decide (k < k'))) (i.castLE hm) := by
    have h : sortPositions n (fun k k' : Fin n => decide (g k' < g k))
        = sortPositions n (fun k k' : Fin n => decide (g k' < g k) || (decide (g k = g k') && decide (k < k'))) :=
      stableSort_eq_lex g (List.finRange n) (List.pairwise_lt_finRange n)
    unfold sortedFrom
    rw [List.get_of_eq h]
    rfl
  rw [hs]
  classical
  have hB : StrictTotalBefore fun k k' : Fin n => decide (g k' < g k) || (decide (g k = g k') && decide (k < k')) := by
    have := StrictTotalBefore.of_key_then_position (fun a b : EReal => decide (b < a)) g (fun a => by simp)
      (fun a b c h1 h2 => by
        simp only [decide_eq_true_eq] at h1 h2 ⊢
        exact lt_trans h2 h1)
      (fun a b => by
        rcases lt_trichotomy a b with h | h | h
        · exact .inr (.inr (by simpa using h))
        · exact .inr (.inl h)
        · exact .inl (by simpa using h))
    convert this
  refine hB.sortedFrom_eq_of_prefix hm (fun i : Fin m => pick f i.val) ?_ ?_ ?_ i
  · intro a b hab
    rcases lt_trichotomy a b with h | h | h
    · exact absurd hab (pick_ne hf (lt_of_lt_of_le b.isLt hm) h)
    · exact h
    · exact absurd hab.symm (pick_ne hf (lt_of_lt_of_le a.isLt hm) h)
  · intro a b hab
    have := not_before hf (lt_of_lt_of_le a.isLt hm) (q := pick f b.val)
      (fun j hj => pick_ne hf (lt_of_lt_of_le b.isLt hm) (lt_trans hj hab))
    rw [← Bool.not_eq_true]
    simpa [hg, heq] using this
  · intro a p hp
    have := not_before hf (lt_of_lt_of_le a.isLt hm) (q := p)
      (fun j hj => hp ⟨j, lt_trans hj a.isLt⟩)
    rw [← Bool.not_eq_true]
    simpa [hg, heq] using this

end Cert.TopFour

end
-- ==== Proof.Rounds.lean ====
/-
  One round of the kernel's selection: the mark of each row's first largest entry.
-/
module

public import proofs.«01_k».proof.Proof.Gen.KernelIdeal.Frame
public import proofs.«01_k».proof.Proof.TopFour
public import Idealize.ShloMosaic.Lib.Pointwise

@[expose] public section

set_option maxRecDepth 16384

noncomputable section

namespace Cert.KernelIdeal.Value

open Cert.KernelIdeal Cert.KernelIdeal.Gen
open Idealize.ShloMosaic Idealize.ShloMosaic.Pointwise

/-- Every lane's column number. -/
def lanes : IVec S256x256 32 := iota .tc S256x256 32 [1] iota_S256x256_d1_w32

/-- The mark of each row's first largest entry. -/
def hot (v : FVec Ideal S256x256 .f32) : IVec S256x256 1 :=
  cmpi .eq lanes (broadcastTo S256x256 (shapeCast S256x1
    (multiReductionI .minsi [1] S256
      (select (cmpf .oeq v (broadcastTo S256x256 (shapeCast S256x1
          (multiReduction .maximumf [1] S256 v 0xFF800000#32 reduces_S256x256_S256 (.inl rfl) rfl) shapeCasts_S256_S256x1)
          broadcasts_S256x1_S256x256)) lanes (broadcast S256x256 256#32))
      2147483647#32 reduces_S256x256_S256 rfl) shapeCasts_S256_S256x1) broadcasts_S256x1_S256x256)

/-- The entries with the marked ones taken out. -/
def cut (v : FVec Ideal S256x256 .f32) : FVec Ideal S256x256 .f32 :=
  select (hot v) (broadcast S256x256 (Scalar.ofBits .f32 0xFF800000#32)) v

/-- The marked rows of one of the four column blocks. -/
def drawn (v : FVec Ideal S256x256 .f32) (z : FVec Ideal S256x384 .f32) : FVec Ideal S256x384 .f32 :=
  matmul dot_S256x256_S256x384_S256x384_1_0_0_1_n_n none (sitofp .f32 (extui 32 (hot v) natLt_1_32)) z
    (constant S256x384 .f32 0x00000000#32)

variable (x0 : Vec Ideal S1x256x392 .f32) (x1 : Vec Ideal S1x392x256 .f32) (z : Vec Ideal S1x256x1536 .f32)

/-- A row's largest entry is the one at the first place of it. -/
theorem fold_max_eq {n : Nat} [NeZero n] (f : Fin n → EReal) :
    (Finset.univ : Finset (Fin n)).fold max ⊥ f = f (TopFour.first f) := by
  refine le_antisymm ?_ ?_
  · exact Finset.fold_max_le _ |>.2 ⟨bot_le, fun q _ => (TopFour.isFirst_first f).le q⟩
  · exact Finset.le_fold_max _ |>.2 (.inr ⟨TopFour.first f, Finset.mem_univ _, le_refl _⟩)

/-- The signed minimum of two words is the minimum of their values. -/
theorem toInt_minsi (a b : BitVec 32) : (IntOp.minsi a b).toInt = min a.toInt b.toInt := by
  unfold IntOp.minsi
  rw [BitVec.slt_eq_decide]
  by_cases h : a.toInt < b.toInt
  · rw [if_pos (by simpa using h), min_eq_left h.le]
  · rw [if_neg (by simpa using h), min_eq_right (not_lt.1 h)]

/-- The signed minimum of a list of words. -/
theorem toInt_fold_minsi {n : Nat} (b : BitVec 32) (g : Fin n → BitVec 32) :
    ((Finset.univ : Finset (Fin n)).fold IntOp.minsi b g).toInt
      = (Finset.univ : Finset (Fin n)).fold min b.toInt fun x => (g x).toInt :=
  (Finset.fold_hom (m := BitVec.toInt) toInt_minsi).symm

/-- The least number of a lane holding the row's largest entry is the first such lane. -/
theorem fold_min_eq (f : Fin 256 → EReal) :
    (Finset.univ : Finset (Fin 256)).fold IntOp.minsi 2147483647#32
        (fun x => if f x = f (TopFour.first f) then BitVec.ofNat 32 x.val else 256#32)
      = BitVec.ofNat 32 (TopFour.first f).val := by
  have hn : ∀ x : Fin 256, (BitVec.ofNat 32 x.val).toInt = (x.val : Int) := fun x => by
    rw [BitVec.toInt_eq_toNat_cond, BitVec.toNat_ofNat]; have := x.isLt; omega
  apply BitVec.eq_of_toInt_eq
  rw [toInt_fold_minsi, hn]
  refine le_antisymm ?_ ?_
  · refine Finset.fold_min_le _ |>.2 (.inr ⟨TopFour.first f, Finset.mem_univ _, ?_⟩)
    rw [if_pos rfl, hn]
  · refine Finset.le_fold_min _ |>.2 ⟨?_, fun x _ => ?_⟩
    · have := (TopFour.first f).isLt
      show _ ≤ (2147483647 : Int)
      omega
    · split
      · next h =>
        rw [hn]
        by_contra hc
        exact (TopFour.isFirst_first f).lt x (by rw [Fin.lt_def]; omega) h
      · have := (TopFour.first f).isLt
        show _ ≤ (256 : Int)
        omega

/-- The literal minus infinity. -/
theorem ofBits_bot : Ideal.ofBits .f32 0xFF800000#32 = (⊥ : EReal) := by
  simp [Ideal.ofBits, Ideal.ieee]

/-- The comparison of two lane numbers, as a bit. -/
theorem mark_eq (q p : Fin 256) :
    IntOp.cmpi .eq (BitVec.ofNat 32 q.val) (BitVec.ofNat 32 p.val) = BitVec.ofBool (decide (q = p)) := by
  unfold IntOp.cmpi
  refine congrArg BitVec.ofBool ?_
  rw [Bool.eq_iff_iff, beq_iff_eq, decide_eq_true_eq]
  constructor
  · intro h
    have := congrArg BitVec.toNat h
    simp only [BitVec.toNat_ofNat] at this
    have := q.isLt
    have := p.isLt
    exact Fin.ext (by omega)
  · rintro rfl; rfl

/-- The mark stands at the first largest entry of the row, and nowhere else. -/
theorem hot_apply (v : FVec Ideal S256x256 .f32) (r q : Fin 256) :
    hot v (ix2 r q) = BitVec.ofBool (decide (q = TopFour.first fun x => v (ix2 r x))) := by
  pointwise [hot, lanes]
  rw [ofBits_bot]
  have h1 := fold_max_eq fun x => v (ix2 r x)
  have h2 := fold_min_eq fun x => v (ix2 r x)
  beta_reduce at h1 h2
  rw [h1, h2]
  exact mark_eq q _

/-- Taking the mark out sets the first largest entry to minus infinity. -/
theorem cut_row (v : FVec Ideal S256x256 .f32) (r : Fin 256) :
    (fun q => cut v (ix2 r q)) = TopFour.mask (fun q => v (ix2 r q)) (TopFour.first fun q => v (ix2 r q)) := by
  funext q
  show Scalar.select (hot v (ix2 r q)) (Ideal.ofBits .f32 0xFF800000#32) (v (ix2 r q)) = _
  rw [hot_apply, ofBits_bot]
  unfold TopFour.mask
  by_cases h : q = TopFour.first fun x => v (ix2 r x)
  · rw [if_pos h, decide_eq_true h]; rfl
  · rw [if_neg h, decide_eq_false h]; rfl

/-- The product with the mark reads the marked row. -/
theorem drawn_apply (v : FVec Ideal S256x256 .f32) (z : FVec Ideal S256x384 .f32) (r : Fin 256) (q : Fin 384) :
    drawn v z (ix2 r q) = z (ix2 (TopFour.first fun x => v (ix2 r x)) q) := by
  pointwise [drawn]
  rw [Finset.sum_eq_single (TopFour.first fun x => v (ix2 r x))]
  · rw [hot_apply, decide_eq_true rfl]
    show (((1 : Int) : ℝ) : EReal) * _ = _
    rw [Int.cast_one, EReal.coe_one, one_mul]
  · intro x _ hx
    rw [hot_apply, decide_eq_false hx]
    show (((0 : Int) : ℝ) : EReal) * _ = _
    rw [Int.cast_zero, EReal.coe_zero, zero_mul]
  · intro h; exact absurd (Finset.mem_univ _) h

/-- The score a row of tokens gives to a sampled token. -/
theorem score_apply (r q : Fin 256) :
    k1_pay2 (F := Ideal) x0 x1 (ix2 r q)
      = Ideal.ofBits .f32 0x40000000#32 * (∑ k : Fin 392, x0 (ix3 (0 : Fin 1) r k) * x1 (ix3 (0 : Fin 1) k q))
          - ∑ k : Fin 392, x1 (ix3 (0 : Fin 1) k q) * x1 (ix3 (0 : Fin 1) k q) := by
  pointwise [k1_pay2]

/-- A token's result: its four best samples' columns, each from its own column block, and the bias. -/
theorem body_apply (b : Vec Ideal S1x384 .f32) (r : Fin 256) (q : Fin 384) :
    k1_pay1 (F := Ideal) (k1_pay11 lanes (k1_pay4 x0 x1 z) (k1_pay5 x0 x1) (k1_pay6 x0 x1) k1_pay7 z z)
        (k1_pay12 lanes (k1_pay5 x0 x1) (k1_pay6 x0 x1) k1_pay7) z b (ix3 (0 : Fin 1) r q)
      = z (ix3 (0 : Fin 1) (TopFour.pick (fun s => k1_pay2 (F := Ideal) x0 x1 (ix2 r s)) 0) ⟨q.val, by omega⟩)
        + z (ix3 (0 : Fin 1) (TopFour.pick (fun s => k1_pay2 (F := Ideal) x0 x1 (ix2 r s)) 1) ⟨384 + q.val, by omega⟩)
        + z (ix3 (0 : Fin 1) (TopFour.pick (fun s => k1_pay2 (F := Ideal) x0 x1 (ix2 r s)) 2) ⟨768 + q.val, by omega⟩)
        + z (ix3 (0 : Fin 1) (TopFour.pick (fun s => k1_pay2 (F := Ideal) x0 x1 (ix2 r s)) 3) ⟨1152 + q.val, by omega⟩)
        + b (ix2 (0 : Fin 1) q) := by
  let v := k1_pay2 (F := Ideal) x0 x1
  let zs := shapeCast S256x1536 z shapeCasts_S1x256x1536_S256x1536
  have h : k1_pay1 (F := Ideal) (k1_pay11 lanes (k1_pay4 x0 x1 z) (k1_pay5 x0 x1) (k1_pay6 x0 x1) k1_pay7 z z)
        (k1_pay12 lanes (k1_pay5 x0 x1) (k1_pay6 x0 x1) k1_pay7) z b
      = shapeCast S1x256x384 (addf (addf (addf (addf (addf (broadcast S256x384 (Scalar.ofBits .f32 0x00000000#32))
          (drawn v (extractStridedSlice S256x384 ![0, 0] zs slices_S256x1536_o0_0_S256x384)))
          (drawn (cut v) (extractStridedSlice S256x384 ![0, 384] zs slices_S256x1536_o0_384_S256x384)))
          (drawn (cut (cut v)) (extractStridedSlice S256x384 ![0, 768] zs slices_S256x1536_o0_768_S256x384)))
          (drawn (cut (cut (cut v))) (extractStridedSlice S256x384 ![0, 1152] zs slices_S256x1536_o0_1152_S256x384)))
          (broadcastTo S256x384 (shapeCast S1x384 b shapeCasts_S1x384_S1x384) broadcasts_S1x384_S256x384))
          shapeCasts_S256x384_S1x256x384 := rfl
  rw [h]
  have e0 : TopFour.pick (fun s => v (ix2 r s)) 0 = TopFour.first fun s => v (ix2 r s) := rfl
  have e1 : TopFour.pick (fun s => v (ix2 r s)) 1 = TopFour.first fun s => cut v (ix2 r s) := by
    rw [cut_row]; rfl
  have e2 : TopFour.pick (fun s => v (ix2 r s)) 2 = TopFour.first fun s => cut (cut v) (ix2 r s) := by
    rw [cut_row, cut_row]; rfl
  have e3 : TopFour.pick (fun s => v (ix2 r s)) 3 = TopFour.first fun s => cut (cut (cut v)) (ix2 r s) := by
    rw [cut_row, cut_row, cut_row]; rfl
  rw [show k1_pay2 (F := Ideal) x0 x1 = v from rfl, e0, e1, e2, e3]
  generalize v = v
  pointwise [drawn_apply, zs]

end Cert.KernelIdeal.Value

end
-- ==== Proof.Regions.lean ====
/-
  What the two launches leave in their result arrays.
-/
module

public import proofs.«01_k».proof.Proof.Rounds
public import Idealize.ShloMosaic.Lib.Pipeline.ValueKit

@[expose] public section

set_option maxRecDepth 16384

noncomputable section

namespace Cert.KernelIdeal.Value

open Cert.KernelIdeal Cert.KernelIdeal.Gen
open Idealize.ShloMosaic Idealize.ShloMosaic.TcCoe Idealize.ShloMosaic.Pointwise

/-- The first launch's result: the sampled tokens times the folded weight. -/
def product (xs : FVec Ideal S2x256x392 .f32) (w : FVec Ideal S392x1536 .f32) : FVec Ideal S2x256x1536 .f32 :=
  fun i => ∑ k : Fin 392, xs (ix3 (i 0) (i 1) k) * w (ix2 k (i 2))

/-- The score of token `n` of image `e` against sample `s`. -/
def score (t : FVec Ideal S2x12544x392 .f32) (xt : FVec Ideal S2x392x256 .f32) (e : Fin 2) (n : Fin 12544) (s : Fin 256) : EReal :=
  Ideal.ofBits .f32 0x40000000#32 * (∑ k : Fin 392, t (ix3 e n k) * xt (ix3 e k s)) - ∑ k : Fin 392, xt (ix3 e k s) * xt (ix3 e k s)

/-- One entry of the second launch's result. -/
def entry (t : FVec Ideal S2x12544x392 .f32) (xt : FVec Ideal S2x392x256 .f32) (z : FVec Ideal S2x256x1536 .f32)
    (b : FVec Ideal S1x384 .f32) (e : Fin 2) (n : Fin 12544) (q : Fin 384) : EReal :=
  z (ix3 e (TopFour.pick (score t xt e n) 0) ⟨q.val, by omega⟩)
    + z (ix3 e (TopFour.pick (score t xt e n) 1) ⟨384 + q.val, by omega⟩)
    + z (ix3 e (TopFour.pick (score t xt e n) 2) ⟨768 + q.val, by omega⟩)
    + z (ix3 e (TopFour.pick (score t xt e n) 3) ⟨1152 + q.val, by omega⟩)
    + b (ix2 (0 : Fin 1) q)

/-- The second launch's result. -/
def mixed (t : FVec Ideal S2x12544x392 .f32) (xt : FVec Ideal S2x392x256 .f32) (z : FVec Ideal S2x256x1536 .f32)
    (b : FVec Ideal S1x384 .f32) : FVec Ideal S2x12544x384 .f32 := fun i => entry t xt z b (i 0) (i 1) (i 2)

/-- The blocks that a step of the first launch reads and writes. -/
theorem idx0 : ∀ t : Fin cfg0.N, win0_0.index t = ![(grid0.coords t 0).val, 0, 0] ∧ win0_1.index t = ![0, 0]
    ∧ win0_2.index t = ![(grid0.coords t 0).val, 0, 0] :=
  (by decide +kernel : ∀ t : Fin grid0.N, _)

/-- The blocks that a step of the second launch reads and writes. -/
theorem idx1 : ∀ t : Fin cfg1.N, win1_0.index t = ![(grid1.coords t 0).val, (grid1.coords t 1).val, 0]
    ∧ win1_1.index t = ![(grid1.coords t 0).val, 0, 0] ∧ win1_2.index t = ![(grid1.coords t 0).val, 0, 0]
    ∧ win1_3.index t = ![0, 0] ∧ win1_4.index t = ![(grid1.coords t 0).val, (grid1.coords t 1).val, 0] :=
  (by decide +kernel : ∀ t : Fin grid1.N, _)

variable (V : (c : Dev nD) → (b : Ref sig .tc) → Buf (Elt Ideal) ((c : Thread nD τ).loc b)) (c : Dev nD)

/-! ## The blocks the points read -/

/-- A step of the first launch reads one image's samples. -/
theorem read0_0 (t : Fin cfg0.N) (r : Fin 256) (k : Fin 392) (e : Fin 2) (he : e.val = (grid0.coords t 0).val) :
    iblk0 V c 0 t (ix3 (0 : Fin 1) r k) = V c main_v32 (ix3 e r k) := by
  obtain ⟨e0, e1, e2⟩ := idx0 t
  blk_ext [iblk0, e0]

/-- A step of the first launch reads the whole folded weight. -/
theorem read0_1 (t : Fin cfg0.N) (k : Fin 392) (q : Fin 1536) :
    iblk0 V c 1 t (ix2 k q) = V c main_v37 (ix2 k q) := by
  obtain ⟨e0, e1, e2⟩ := idx0 t
  blk_ext [iblk0, e1]

/-- A step of the second launch reads 256 tokens of one image. -/
theorem read1_0 (t : Fin cfg1.N) (r : Fin 256) (k : Fin 392) (e : Fin 2) (n : Fin 12544) (he : e.val = (grid1.coords t 0).val)
    (hn : n.val = (grid1.coords t 1).val * 256 + r.val) :
    iblk1 V c 0 t (ix3 (0 : Fin 1) r k) = V c main_v20 (ix3 e n k) := by
  obtain ⟨e0, e1, e2, e3, e4⟩ := idx1 t
  blk_ext [iblk1, e0]

/-- A step of the second launch reads one image's samples, channels first. -/
theorem read1_1 (t : Fin cfg1.N) (k : Fin 392) (s : Fin 256) (e : Fin 2) (he : e.val = (grid1.coords t 0).val) :
    iblk1 V c 1 t (ix3 (0 : Fin 1) k s) = V c main_v33 (ix3 e k s) := by
  obtain ⟨e0, e1, e2, e3, e4⟩ := idx1 t
  blk_ext [iblk1, e1]

/-- A step of the second launch reads one image's part of the first launch's result. -/
theorem read1_2 (t : Fin cfg1.N) (s : Fin 256) (q : Fin 1536) (e : Fin 2) (he : e.val = (grid1.coords t 0).val) :
    iblk1 V c 2 t (ix3 (0 : Fin 1) s q) = V c main_v44 (ix3 e s q) := by
  obtain ⟨e0, e1, e2, e3, e4⟩ := idx1 t
  blk_ext [iblk1, e2]

/-- A step of the second launch reads the whole folded bias. -/
theorem read1_3 (t : Fin cfg1.N) (q : Fin 384) :
    iblk1 V c 3 t (ix2 (0 : Fin 1) q) = V c main_v43 (ix2 (0 : Fin 1) q) := by
  obtain ⟨e0, e1, e2, e3, e4⟩ := idx1 t
  blk_ext [iblk1, e3]

/-- An index of a block of one image is a row and a column. -/
theorem eq_row {n1 n2 : Nat} (y : (⟨3, ![1, n1, n2]⟩ : Shape).Idx) : ∃ r q, y = ix3 (0 : Fin 1) r q :=
  ⟨y 1, y 2, (eq_ix3 y).trans (by congr 1; exact Subsingleton.elim _ _)⟩

/-! ## A point's block of the result -/

/-- One entry of what a step of the first launch stores. -/
theorem product_point (x0 : Vec Ideal S1x256x392 .f32) (x1 : Vec Ideal S392x1536 .f32) (xs : FVec Ideal S2x256x392 .f32)
    (w : FVec Ideal S392x1536 .f32) (e : Fin 2) (r : Fin 256) (q : Fin 1536)
    (h0 : ∀ k, x0 (ix3 (0 : Fin 1) r k) = xs (ix3 e r k)) (h1 : ∀ k, x1 (ix2 k q) = w (ix2 k q)) :
    k0_pay1 (F := Ideal) x0 x1 (ix3 (0 : Fin 1) r q) = product xs w (ix3 e r q) := by
  pointwise [k0_pay1, product]
  refine Finset.sum_congr rfl fun k _ => ?_
  rw [h0, h1]

/-- One entry of what a step of the second launch stores. -/
theorem mixed_point (x0 : Vec Ideal S1x256x392 .f32) (x1 : Vec Ideal S1x392x256 .f32) (x2 : Vec Ideal S1x256x1536 .f32)
    (x3 : Vec Ideal S1x384 .f32) (t : FVec Ideal S2x12544x392 .f32) (xt : FVec Ideal S2x392x256 .f32)
    (z : FVec Ideal S2x256x1536 .f32) (b : FVec Ideal S1x384 .f32) (e : Fin 2) (n : Fin 12544) (r : Fin 256) (q : Fin 384)
    (h0 : ∀ k, x0 (ix3 (0 : Fin 1) r k) = t (ix3 e n k)) (h1 : ∀ k s, x1 (ix3 (0 : Fin 1) k s) = xt (ix3 e k s))
    (h2 : ∀ s q, x2 (ix3 (0 : Fin 1) s q) = z (ix3 e s q)) (h3 : x3 (ix2 (0 : Fin 1) q) = b (ix2 (0 : Fin 1) q)) :
    k1_pay1 (F := Ideal) (k1_pay11 lanes (k1_pay4 x0 x1 x2) (k1_pay5 x0 x1) (k1_pay6 x0 x1) k1_pay7 x2 x2)
        (k1_pay12 lanes (k1_pay5 x0 x1) (k1_pay6 x0 x1) k1_pay7) x2 x3 (ix3 (0 : Fin 1) r q)
      = mixed t xt z b (ix3 e n q) := by
  have hs : (fun s => k1_pay2 (F := Ideal) x0 x1 (ix2 r s)) = score t xt e n := by
    funext s
    rw [score_apply]
    unfold score
    simp only [h0, h1]
  rw [body_apply, hs, h2, h2, h2, h2, h3]
  rfl

/-! ## The result arrays -/

/-- The first launch leaves the product of samples and folded weight. -/
theorem launch0_value : (dat0 V c).arrAt 2 cfg0.N = product (V c main_v32) (V c main_v37) := by
  refine (dat0 V c).arrAt_eq_of_covers 2 _ (by decide +kernel) fun t hf y => ?_
  obtain ⟨e0, e1, e2⟩ := idx0 t
  blk_simp
  rw [after0_2]
  frame_out
  obtain ⟨r, q, rfl⟩ := eq_row (n1 := 256) (n2 := 1536) y
  obtain ⟨e, he⟩ : ∃ e : Fin 2, e.val = (grid0.coords t 0).val := ⟨grid0.coords t 0, rfl⟩
  have hemb : ((View.whole main_v44).slice (win0_2.rect t)).emb (ix3 (0 : Fin 1) r q) = ix3 e r q := by
    blk_ext [e2]
  rw [hemb]
  exact product_point (iblk0 V c 0 t) (iblk0 V c 1 t) _ _ e r q (fun k => read0_0 V c t r k e he) (fun k => read0_1 V c t k q)

/-- The second launch leaves, at every token, its four chosen samples' parts and the bias. -/
theorem launch1_value : (dat1 V c).arrAt 4 cfg1.N = mixed (V c main_v20) (V c main_v33) (V c main_v44) (V c main_v43) := by
  refine (dat1 V c).arrAt_eq_of_covers 4 _ (by decide +kernel) fun t hf y => ?_
  obtain ⟨e0, e1, e2, e3, e4⟩ := idx1 t
  blk_simp
  rw [after1_4]
  unfold_out out1_4
  frame_out
  obtain ⟨r, q, rfl⟩ := eq_row (n1 := 256) (n2 := 384) y
  have hj : (grid1.coords t 1).val < 49 := (grid1.coords t 1).isLt
  obtain ⟨e, he⟩ : ∃ e : Fin 2, e.val = (grid1.coords t 0).val := ⟨grid1.coords t 0, rfl⟩
  obtain ⟨n, hn⟩ : ∃ n : Fin 12544, n.val = (grid1.coords t 1).val * 256 + r.val := ⟨⟨_, by omega⟩, rfl⟩
  have hemb : ((View.whole main_v45).slice (win1_4.rect t)).emb (ix3 (0 : Fin 1) r q) = ix3 e n q := by
    blk_ext [e4]
  rw [hemb]
  change k1_pay1 (F := Ideal) (k1_pay11 lanes _ _ _ _ _ _) (k1_pay12 lanes _ _ _) _ _ _ = _
  exact mixed_point (iblk1 V c 0 t) (iblk1 V c 1 t) (iblk1 V c 2 t) (iblk1 V c 3 t) _ _ _ _ e n r q
    (fun k => read1_0 V c t r k e n he hn) (fun k s => read1_1 V c t k s e he) (fun s q => read1_2 V c t s q e he) (read1_3 V c t q)

end Cert.KernelIdeal.Value

end
-- ==== Proof.KernelValue.lean ====
/-
  The kernel's result as a function of its arguments.
-/
module

public import proofs.«01_k».proof.Proof.Host
public import proofs.«01_k».proof.Proof.Run
public import proofs.«01_k».proof.Proof.Regions

@[expose] public section

set_option maxRecDepth 16384

noncomputable section

namespace Cert.KernelIdeal.Value

open Cert.KernelIdeal Cert.KernelIdeal.Gen
open Idealize.ShloMosaic Idealize.ShloMosaic.TcCoe

/-- The sampled tokens. -/
def samples (x : FVec Ideal S2x96x224x224 .f32) : FVec Ideal S2x256x392 .f32 := taken (tokens (image x)) places

/-- The kernel's result. -/
def result (x : FVec Ideal S2x96x224x224 .f32) (wc : FVec Ideal S392x392x4 .f32) (bc : FVec Ideal S392 .f32)
    (wp : FVec Ideal S96x98 .f32) (bp : FVec Ideal S96 .f32) : FVec Ideal S2x96x224x224 .f32 :=
  unfolded (mixed (tokens (image x)) (transpose S2x392x256 [0, 2, 1] (samples x) transposes_S2x256x392_S2x392x256_0_2_1)
    (product (samples x) (weight wc wp)) (bias bc wp bp))

variable (m : (ℓ : Loc nD τ sig) → Buf (Elt Ideal) ℓ) (ρ : Dev nD → PrngReg) (c : Dev nD)

/-- What the first launch leaves. -/
theorem W7_product : W7 m ρ c (Proc.devRef .tc main_v44)
    = product (samples (m ((c : Thread nD τ).loc main_arg0)))
        (weight (m ((c : Thread nD τ).loc main_arg1)) (m ((c : Thread nD τ).loc main_arg3))) := by
  refine (W7_arr m ρ c 2).trans ((launch0_value (V6 m ρ) c).trans ?_)
  show product (W6 m ρ c (Proc.devRef .tc main_v32)) (W6 m ρ c (Proc.devRef .tc main_v37)) = _
  rw [W6_samples, W6_weight]
  rfl

/-- What the second launch leaves. -/
theorem W8_mixed : W8 m ρ c (Proc.devRef .tc main_v45)
    = mixed (tokens (image (m ((c : Thread nD τ).loc main_arg0))))
        (transpose S2x392x256 [0, 2, 1] (samples (m ((c : Thread nD τ).loc main_arg0))) transposes_S2x256x392_S2x392x256_0_2_1)
        (product (samples (m ((c : Thread nD τ).loc main_arg0)))
          (weight (m ((c : Thread nD τ).loc main_arg1)) (m ((c : Thread nD τ).loc main_arg3))))
        (bias (m ((c : Thread nD τ).loc main_arg2)) (m ((c : Thread nD τ).loc main_arg3)) (m ((c : Thread nD τ).loc main_arg4))) := by
  refine (W8_arr m ρ c 4).trans ((launch1_value (V7 m ρ) c).trans ?_)
  show mixed (W7 m ρ c (Proc.devRef .tc main_v20)) (W7 m ρ c (Proc.devRef .tc main_v33))
    (W7 m ρ c (Proc.devRef .tc main_v44)) (W7 m ρ c (Proc.devRef .tc main_v43)) = _
  rw [W7_product, W7_of m ρ c main_v20 (by decide +kernel), W7_of m ρ c main_v33 (by decide +kernel),
    W7_of m ρ c main_v43 (by decide +kernel), W6_tokens, W6_turned, W6_bias]
  rfl

/-- The result buffer at the end, as a function of the arguments. -/
theorem W9_value : W9 m ρ c (Proc.devRef .tc main_v48)
    = result (m ((c : Thread nD τ).loc main_arg0)) (m ((c : Thread nD τ).loc main_arg1)) (m ((c : Thread nD τ).loc main_arg2))
        (m ((c : Thread nD τ).loc main_arg3)) (m ((c : Thread nD τ).loc main_arg4)) := by
  rw [W9_result, W8_mixed]
  rfl

end Cert.KernelIdeal.Value

end
-- ==== Proof.Tokens.lean ====
/-
  The kernel's tokens are the reference's columns.
-/
module

public import proofs.«01_k».proof.Proof.Host
public import Idealize.ShloMosaic.Lib.Pointwise

@[expose] public section

set_option maxRecDepth 16384

noncomputable section

namespace Cert.KernelIdeal.Value

open Cert.KernelIdeal Cert.KernelIdeal.Gen Cert.ReferenceIdeal.Read
open Idealize.ShloMosaic Idealize.ShloMosaic.Pointwise

/-- The kernel's lengths are the reference's. -/
theorem length_eq (k : Fin 2) (a b : Fin 224) : lengthOf (ix2 a b) = val_main_v13 (F := Ideal) (ix3 k a b) := by
  pointwise [lengthOf, rowOf, colOf, val_main_v13, val_main_v12, val_main_v11, val_main_v10, val_main_v9, val_main_v8, val_main_v7, val_main_v6, val_main_v5, val_main_v4, val_main_v3, val_main_v2, val_main_v1, val_main_v0, val_main_cst, val_main_cst_0]
  simp

/-- The kernel's coordinate channels are the reference's. -/
theorem coords_eq : coords = val_main_v14 (F := Ideal) := by
  funext i
  obtain ⟨k, a, b, rfl⟩ : ∃ (k : Fin 2) (a b : Fin 224), i = ix3 k a b := ⟨i 0, i 1, i 2, eq_ix3 i⟩
  have h := length_eq k a b
  rw [val_main_v14_apply]
  rw [← h]
  pointwise [coords, val_main_v6, rowOf, colOf, val_main_v5, val_main_v4, val_main_v3, val_main_v2, val_main_v1, val_main_v0]
  split <;> rfl

/-- The kernel's image with coordinates is the reference's. -/
theorem image_eq (x : FVec Ideal S2x96x224x224 .f32) : image x = val_main_v17 (F := Ideal) x := by
  unfold image
  rw [coords_eq]
  rfl

/-- A channel of a token: the image channel, and the place in the two-by-two block. -/
def chan (p : Fin 98) (a b : Fin 2) : Fin 392 := ⟨p.val * 4 + a.val * 2 + b.val, by omega⟩

/-- A token's number from its block's row and column. -/
def cell (i j : Fin 112) : Fin 12544 := ⟨i.val * 112 + j.val, by omega⟩

/-- Every channel of a token is an image channel at a place in the block. -/
theorem exists_chan (k : Fin 392) : ∃ p a b, k = chan p a b :=
  ⟨⟨k.val / 4, by omega⟩, ⟨k.val / 2 % 2, by omega⟩, ⟨k.val % 2, by omega⟩, Fin.ext (by show k.val = k.val / 4 * 4 + k.val / 2 % 2 * 2 + k.val % 2; omega)⟩

/-- Every token number is a block's row and column. -/
theorem exists_cell (n : Fin 12544) : ∃ i j, n = cell i j :=
  ⟨⟨n.val / 112, by omega⟩, ⟨n.val % 112, by omega⟩, Fin.ext (by show n.val = n.val / 112 * 112 + n.val % 112; omega)⟩

/-- A pixel's row, or its column, from its block's and its place in the block. -/
def pixel (i : Fin 112) (a : Fin 2) : Fin 224 := ⟨i.val * 2 + a.val, by omega⟩

/-- A token entry of the kernel is a pixel of the image with coordinates. -/
theorem tokens_at (v : FVec Ideal S2x98x224x224 .f32) (e : Fin 2) (i j : Fin 112) (p : Fin 98) (a b : Fin 2) :
    tokens v (ix3 e (cell i j) (chan p a b)) = v (ix4 e p (pixel i a) (pixel j b)) := by
  unfold tokens
  refine (Idealize.ShloMosaic.shapeCast_apply _ _ _ (ix6 e i j p a b) ?_).trans ?_
  · rw [Shape.rowMajor_val_six, Shape.rowMajor_val_three]
    show ((((e.val * 112 + i.val) * 112 + j.val) * 98 + p.val) * 2 + a.val) * 2 + b.val
      = (e.val * 12544 + (i.val * 112 + j.val)) * 392 + (p.val * 4 + a.val * 2 + b.val)
    omega
  refine (Idealize.ShloMosaic.transpose_apply _ _ _ _ (ix6 e p i a j b) (fun b => match b with
    | ⟨0, _⟩ => rfl | ⟨1, _⟩ => rfl | ⟨2, _⟩ => rfl | ⟨3, _⟩ => rfl | ⟨4, _⟩ => rfl | ⟨5, _⟩ => rfl)).trans ?_
  refine Idealize.ShloMosaic.shapeCast_apply _ _ _ (ix4 e p (pixel i a) (pixel j b)) ?_
  rw [Shape.rowMajor_val_six, Shape.rowMajor_val_four]
  show ((e.val * 98 + p.val) * 224 + (i.val * 2 + a.val)) * 224 + (j.val * 2 + b.val)
    = ((((e.val * 98 + p.val) * 112 + i.val) * 2 + a.val) * 112 + j.val) * 2 + b.val
  omega

/-- A token entry of the reference is a pixel of the image with coordinates. -/
theorem columns_at (x : FVec Ideal S2x96x224x224 .f32) (e : Fin 2) (i j : Fin 112) (p : Fin 98) (a b : Fin 2) :
    val_main_v49 (F := Ideal) x (ix3 e (chan p a b) (cell i j))
      = val_main_v17 (F := Ideal) x (ix4 e p (pixel i a) (pixel j b)) := by
  unfold val_main_v49
  refine (Idealize.ShloMosaic.shapeCast_apply _ _ _ (ix4 e (chan p a b) i j) ?_).trans ?_
  · rw [Shape.rowMajor_val_four, Shape.rowMajor_val_three]
    show ((e.val * 392 + (p.val * 4 + a.val * 2 + b.val)) * 112 + i.val) * 112 + j.val
      = (e.val * 392 + (p.val * 4 + a.val * 2 + b.val)) * 12544 + (i.val * 112 + j.val)
    omega
  unfold val_main_v20
  refine (Idealize.ShloMosaic.shapeCast_apply _ _ _ (ix6 e p a b i j) ?_).trans ?_
  · rw [Shape.rowMajor_val_six, Shape.rowMajor_val_four]
    show ((((e.val * 98 + p.val) * 2 + a.val) * 2 + b.val) * 112 + i.val) * 112 + j.val
      = ((e.val * 392 + (p.val * 4 + a.val * 2 + b.val)) * 112 + i.val) * 112 + j.val
    omega
  rw [val_main_v19_apply]
  unfold val_main_v18
  refine Idealize.ShloMosaic.shapeCast_apply _ _ _ (ix4 e p (pixel i a) (pixel j b)) ?_
  rw [Shape.rowMajor_val_six, Shape.rowMajor_val_four]
  show ((e.val * 98 + p.val) * 224 + (i.val * 2 + a.val)) * 224 + (j.val * 2 + b.val)
    = ((((e.val * 98 + p.val) * 112 + i.val) * 2 + a.val) * 112 + j.val) * 2 + b.val
  omega

/-- The kernel's token entries are the reference's. -/
theorem tokens_apply (x : FVec Ideal S2x96x224x224 .f32) (e : Fin 2) (n : Fin 12544) (k : Fin 392) :
    tokens (image x) (ix3 e n k) = val_main_v49 (F := Ideal) x (ix3 e k n) := by
  obtain ⟨i, j, rfl⟩ := exists_cell n
  obtain ⟨p, a, b, rfl⟩ := exists_chan k
  rw [image_eq, tokens_at, columns_at]

end Cert.KernelIdeal.Value

end
-- ==== Proof.Places.lean ====
/-
  The sampled tokens: a sixteen-by-sixteen grid of token numbers, all in range.
-/
module

public import proofs.«01_k».proof.Proof.Tokens
public import proofs.«01_k».proof.Proof.KernelValue

@[expose] public section

set_option maxRecDepth 16384

noncomputable section

namespace Cert.KernelIdeal.Value

open Cert.KernelIdeal Cert.KernelIdeal.Gen Cert.ReferenceIdeal.Read
open Idealize.ShloMosaic Idealize.ShloMosaic.Pointwise

/-- The literal fifteen. -/
theorem ofBits_fifteen : Ideal.ofBits .f32 0x41700000#32 = ((15 : ℝ) : EReal) := by
  simp [Ideal.ofBits, Ideal.ieee]
  rw [← EReal.coe_mul]; norm_num

/-- The sampled positions begin at 0. -/
theorem first_end (i : S_.Idx) : val_main_call0_v0 (F := Ideal) i = ((0 : ℝ) : EReal) := by
  show (((0#32 : BitVec 32).toInt : ℝ) : EReal) = _
  norm_num

/-- The sampled positions end at 111. -/
theorem last_end (i : S_.Idx) : val_main_call0_v1 (F := Ideal) i = ((111 : ℝ) : EReal) := by
  show (((111#32 : BitVec 32).toInt : ℝ) : EReal) = _
  have : (111#32 : BitVec 32).toInt = 111 := by decide
  rw [this]; norm_num

/-- The quotient of two reals. -/
theorem div_real (a b : ℝ) (hb : b ≠ 0) : Ideal.div (a : EReal) (b : EReal) = ((a / b : ℝ) : EReal) := by
  have : (b : EReal) ≠ 0 := by exact_mod_cast hb
  rw [Ideal.div, if_neg this, ← EReal.coe_inv, ← EReal.coe_mul, div_eq_mul_inv]

/-- The fraction of the way at each position but the last. -/
theorem part_eq (i : Fin 15) : val_main_call0_v6 (F := Ideal) (ix1 i) = (((i.val : ℝ) / 15 : ℝ) : EReal) := by
  pointwise [val_main_call0_v6, val_main_call0_v5, val_main_call0_v4, val_main_call0_cst_0, iotaInDim]
  rw [ofBits_fifteen]
  show Ideal.div ((((BitVec.ofNat 32 i.val).toInt : ℝ)) : EReal) _ = _
  have h : (BitVec.ofNat 32 i.val).toInt = i.val := by
    rw [BitVec.toInt_eq_toNat_cond, BitVec.toNat_ofNat]
    omega
  rw [h, div_real _ _ (by norm_num)]
  norm_num

/-- The evenly spaced positions before they are rounded. -/
theorem line_eq (i : Fin 16) : val_main_v21 (F := Ideal) (ix1 i) = ((111 * ((i.val : ℝ) / 15) : ℝ) : EReal) := by
  pointwise [val_main_v21, val_main_call0_v15, val_main_call0_v16, val_main_call0_v14, val_main_call0_v13, val_main_call0_v12, val_main_call0_v11, val_main_call0_v10, val_main_call0_v9, val_main_call0_v8, val_main_call0_v7, val_main_call0_cst_1]
  split
  · rw [part_eq, first_end, last_end, ← EReal.coe_one, ← EReal.coe_sub, ← EReal.coe_mul, ← EReal.coe_mul, ← EReal.coe_add]
    congr 1
    ring
  · have h : i.val = 15 := by omega
    rw [last_end, h]
    congr 1
    norm_num

/-- Rounding keeps a real between zero and a whole number there. -/
theorem round_bounds (r : ℝ) (n : ℤ) (h0 : 0 ≤ r) (hn : r ≤ n) : 0 ≤ Ideal.roundHalfEven r ∧ Ideal.roundHalfEven r ≤ n := by
  have hf0 : 0 ≤ ⌊r⌋ := Int.floor_nonneg.mpr h0
  have hfn : ⌊r⌋ ≤ n := by exact_mod_cast (Int.floor_le r).trans hn
  rcases hfn.lt_or_eq with hlt | heq
  · simp only [Ideal.roundHalfEven]
    split_ifs <;> omega
  · have h1 : r - ⌊r⌋ < 1 / 2 := by
      have := Int.floor_le r
      rw [heq] at this ⊢; linarith
    simp only [Ideal.roundHalfEven]
    rw [if_pos h1]
    exact ⟨hf0, hfn⟩

/-- A rounded position is a whole number below 112. -/
theorem tick_exists (i : Fin 16) : ∃ t : Fin 112, val_main_v23 (F := Ideal) (ix1 i) = BitVec.ofNat 32 t.val := by
  have hb := round_bounds (111 * ((i.val : ℝ) / 15)) 111 (by positivity) (by
    have : (i.val : ℝ) ≤ 15 := by exact_mod_cast (by omega : i.val ≤ 15)
    push_cast; linarith)
  obtain ⟨t, ht⟩ := Int.eq_ofNat_of_zero_le hb.1
  refine ⟨⟨t, by omega⟩, ?_⟩
  show Ideal.fptosi 32 (Ideal.liftRound Ideal.roundHalfEven (val_main_v21 (F := Ideal) (ix1 i))) = _
  rw [line_eq, Ideal.liftRound_coe, ht]
  show BitVec.ofInt 32 (max _ (min _ (if (0 : ℝ) ≤ ((t : ℤ) : ℝ) then ⌊((t : ℤ) : ℝ)⌋ else ⌈((t : ℤ) : ℝ)⌉))) = _
  rw [Int.floor_intCast, Int.ceil_intCast, ite_self]
  have : max (-((2 ^ (32 - 1) : Nat) : ℤ)) (min (((2 ^ (32 - 1) : Nat) : ℤ) - 1) (t : ℤ)) = (t : ℤ) := by
    norm_num; omega
  rw [this]
  exact BitVec.ofInt_natCast _ _

/-- The sampled rows, and the sampled columns. -/
def tick (i : Fin 16) : Fin 112 := (tick_exists i).choose

/-- The rounded position, as a word. -/
theorem tick_eq (i : Fin 16) : val_main_v23 (F := Ideal) (ix1 i) = BitVec.ofNat 32 (tick i).val := (tick_exists i).choose_spec

/-- A sampled token's number. -/
def spot (s : Fin 256) : Fin 12544 := cell (tick ⟨s.val / 16, by omega⟩) (tick ⟨s.val % 16, by omega⟩)

/-! Small whole numbers as 32-bit numbers. -/

/-- A small number's word, read as signed. -/
theorem toInt_small {n : Nat} (h : n < 2 ^ 31) : (BitVec.ofNat 32 n).toInt = n := by
  rw [BitVec.toInt_eq_toNat_cond, BitVec.toNat_ofNat]
  omega

/-- A small number is not counted from the end. -/
theorem select_nonneg {n : Nat} (h : n < 2 ^ 31) (y : BitVec 32) :
    Scalar.select (IntOp.cmpi .slt (BitVec.ofNat 32 n) 0#32) y (BitVec.ofNat 32 n) = BitVec.ofNat 32 n := by
  have : IntOp.cmpi .slt (BitVec.ofNat 32 n) 0#32 = 0#1 := by
    show BitVec.ofBool (BitVec.slt _ _) = _
    rw [BitVec.slt, toInt_small h, toInt_small (n := 0) (by norm_num), decide_eq_false (by omega)]
    rfl
  rw [this]
  rfl

/-- A small number passes the range test. -/
theorem range_small {n m : Nat} (h : n ≤ m) (hm : m < 2 ^ 31) :
    IntOp.andi (IntOp.cmpi .sge (BitVec.ofNat 32 n) 0#32) (IntOp.cmpi .sle (BitVec.ofNat 32 n) (BitVec.ofNat 32 m)) = 1#1 := by
  have h1 : IntOp.cmpi .sge (BitVec.ofNat 32 n) 0#32 = 1#1 := by
    show BitVec.ofBool (BitVec.sle _ _) = _
    rw [BitVec.sle, toInt_small (n := n) (by omega), toInt_small (n := 0) (by norm_num), decide_eq_true (by omega)]
    rfl
  have h2 : IntOp.cmpi .sle (BitVec.ofNat 32 n) (BitVec.ofNat 32 m) = 1#1 := by
    show BitVec.ofBool (BitVec.sle _ _) = _
    rw [BitVec.sle, toInt_small (by omega), toInt_small hm]
    simp [h]
  rw [h1, h2]
  rfl

/-- The kernel's list of sampled numbers. -/
theorem places_apply (s : Fin 256) : places (ix1 s) = BitVec.ofNat 32 (spot s).val := by
  pointwise [places, ticks]
  rw [tick_eq, tick_eq]
  show BitVec.ofNat 32 _ * BitVec.ofNat 32 112 + BitVec.ofNat 32 _ = _
  rw [← BitVec.ofNat_mul, ← BitVec.ofNat_add]
  rfl

/-- The sampled numbers need no counting from the end. -/
theorem wrapped_apply (s : Fin 256) (z : Fin 1) : wrapped places (ix2 s z) = BitVec.ofNat 32 (spot s).val := by
  pointwise [wrapped]
  rw [places_apply]
  exact select_nonneg (by omega) _

/-- A gather of token rows by numbers in range reads those rows. -/
theorem rows_gather (t : FVec Ideal S2x12544x392 .f32) (p : IVec S256x1 32) (e : Fin 2) (s : Fin 256) (k : Fin 392)
    (n : Fin 12544) (h : p (ix2 s 0) = BitVec.ofNat 32 n.val) :
    Host.gather gather_S2x12544x392_S256x1_S2x256x392_02_1_n_n_1_1_21392 t p (ix3 e s k) = t (ix3 e n k) := by
  unfold Host.gather
  congr 1
  funext a
  refine Fin.ext ?_
  match a with
  | ⟨0, _⟩ => exact Nat.zero_add _
  | ⟨1, _⟩ =>
    show min (p _).toInt.toNat _ + 0 + 0 = n.val
    have : gather_S2x12544x392_S256x1_S2x256x392_02_1_n_n_1_1_21392.siIdx (ix3 e s k) ⟨0, by decide⟩ = ix2 s 0 := by
      funext b
      match b with
      | ⟨0, _⟩ => rfl
      | ⟨1, _⟩ => rfl
    show min (p (gather_S2x12544x392_S256x1_S2x256x392_02_1_n_n_1_1_21392.siIdx (ix3 e s k) ⟨0, by decide⟩)).toInt.toNat 12543 = n.val
    rw [this, h, toInt_small (by omega)]
    omega
  | ⟨2, _⟩ => exact Nat.zero_add _

/-- The rows taken are the tokens at the sampled numbers. -/
theorem taken_apply (t : FVec Ideal S2x12544x392 .f32) (e : Fin 2) (s : Fin 256) (k : Fin 392) :
    taken t places (ix3 e s k) = t (ix3 e (spot s) k) := by
  pointwise [taken]
  simp only [wrapped_apply]
  rw [range_small (n := (spot s).val) (m := 12543) (by omega) (by norm_num), rows_gather t _ e s k (spot s) (wrapped_apply s 0)]
  rw [Finset.univ_unique, Finset.fold_singleton]
  rfl

/-- The kernel's samples are the reference's columns at the sampled numbers. -/
theorem samples_apply (x : FVec Ideal S2x96x224x224 .f32) (e : Fin 2) (s : Fin 256) (k : Fin 392) :
    samples x (ix3 e s k) = val_main_v49 (F := Ideal) x (ix3 e k (spot s)) := by
  unfold samples
  rw [taken_apply, tokens_apply]

end Cert.KernelIdeal.Value

end
-- ==== Proof.Columns.lean ====
/-
  The reference's samples and its comparison values, read at an index.
-/
module

public import proofs.«01_k».proof.Proof.Places

@[expose] public section

set_option maxRecDepth 16384

noncomputable section

namespace Cert.ReferenceIdeal.Value

open Cert.ReferenceIdeal Cert.ReferenceIdeal.Gen Cert.ReferenceIdeal.Read
open Cert.KernelIdeal.Value (chan cell pixel tick tick_eq spot toInt_small select_nonneg)
open Idealize.ShloMosaic Idealize.ShloMosaic.Pointwise

/-- Entry `k` of token `n`. -/
abbrev col (x : FVec Ideal S2x96x224x224 .f32) (e : Fin 2) (k : Fin 392) (n : Fin 12544) : EReal :=
  val_main_v49 (F := Ideal) x (ix3 e k n)

/-- The reference's second list of sampled positions is the first one. -/
theorem columns_tick (i : Fin 16) : val_main_v26 (F := Ideal) (ix1 i) = BitVec.ofNat 32 (tick i).val := tick_eq i

/-- The row of a sampled grid position. -/
theorem row_apply (a b : Fin 16) : val_main_v38 (F := Ideal) (ix2 a b) = BitVec.ofNat 32 (tick a).val := by
  pointwise [val_main_v38, val_main_v37, val_main_v36, val_main_v35, val_main_v34, val_main_v27, val_main_c_5, val_main_c_6]
  rw [tick_eq]
  exact select_nonneg (by omega) _

/-- The column of a sampled grid position. -/
theorem column_apply (a b : Fin 16) : val_main_v43 (F := Ideal) (ix2 a b) = BitVec.ofNat 32 (tick b).val := by
  pointwise [val_main_v43, val_main_v42, val_main_v41, val_main_v40, val_main_v39, val_main_v28, val_main_c_7, val_main_c_8]
  rw [columns_tick]
  exact select_nonneg (by omega) _

/-- The first of the two numbers the grid gather reads is the row. -/
theorem pair_fst (a b : Fin 16) : val_main_v46 (F := Ideal) (ix3 a b 0) = BitVec.ofNat 32 (tick a).val := by
  pointwise [val_main_v46, val_main_v45, val_main_v44]
  exact row_apply a b

/-- The second of the two numbers the grid gather reads is the column. -/
theorem pair_snd (a b : Fin 16) : val_main_v46 (F := Ideal) (ix3 a b 1) = BitVec.ofNat 32 (tick b).val := by
  pointwise [val_main_v46, val_main_v45, val_main_v44]
  exact column_apply a b

/-- A gather by a row and a column, both in range, reads the entry at that row and column. -/
theorem grid_gather (v : FVec Ideal S2x392x112x112 .f32) (p : IVec S16x16x2 32) (e : Fin 2) (k : Fin 392) (a b : Fin 16)
    (i j : Fin 112) (hi : p (ix3 a b 0) = BitVec.ofNat 32 i.val) (hj : p (ix3 a b 1) = BitVec.ofNat 32 j.val) :
    Host.gather gather_S2x392x112x112_S16x16x2_S2x392x16x16_01_23_n_n_23_2_239211 v p (ix4 e k a b) = v (ix4 e k i j) := by
  unfold Host.gather
  congr 1
  funext c
  refine Fin.ext ?_
  match c with
  | ⟨0, _⟩ => exact Nat.zero_add _
  | ⟨1, _⟩ => exact Nat.zero_add _
  | ⟨2, _⟩ =>
    have : gather_S2x392x112x112_S16x16x2_S2x392x16x16_01_23_n_n_23_2_239211.siIdx (ix4 e k a b) ⟨0, by decide⟩ = ix3 a b 0 := by
      funext b
      match b with
      | ⟨0, _⟩ => rfl
      | ⟨1, _⟩ => rfl
      | ⟨2, _⟩ => rfl
    show min (p (gather_S2x392x112x112_S16x16x2_S2x392x16x16_01_23_n_n_23_2_239211.siIdx (ix4 e k a b) ⟨0, by decide⟩)).toInt.toNat 111 = i.val
    rw [this, hi, toInt_small (by omega)]
    omega
  | ⟨3, _⟩ =>
    have : gather_S2x392x112x112_S16x16x2_S2x392x16x16_01_23_n_n_23_2_239211.siIdx (ix4 e k a b) ⟨1, by decide⟩ = ix3 a b 1 := by
      funext b
      match b with
      | ⟨0, _⟩ => rfl
      | ⟨1, _⟩ => rfl
      | ⟨2, _⟩ => rfl
    show min (p (gather_S2x392x112x112_S16x16x2_S2x392x16x16_01_23_n_n_23_2_239211.siIdx (ix4 e k a b) ⟨1, by decide⟩)).toInt.toNat 111 = j.val
    rw [this, hj, toInt_small (by omega)]
    omega

/-- A token entry, read in the image of tokens. -/
theorem col_cell (x : FVec Ideal S2x96x224x224 .f32) (e : Fin 2) (k : Fin 392) (i j : Fin 112) :
    col x e k (cell i j) = val_main_v20 (F := Ideal) x (ix4 e k i j) := by
  show val_main_v49 (F := Ideal) x (ix3 e k (cell i j)) = _
  unfold val_main_v49
  refine Idealize.ShloMosaic.shapeCast_apply _ _ _ (ix4 e k i j) ?_
  rw [Shape.rowMajor_val_four, Shape.rowMajor_val_three]
  show ((e.val * 392 + k.val) * 112 + i.val) * 112 + j.val = (e.val * 392 + k.val) * 12544 + (i.val * 112 + j.val)
  omega

/-- The reference's samples are the tokens at the sampled numbers. -/
theorem samples_apply (x : FVec Ideal S2x96x224x224 .f32) (e : Fin 2) (k : Fin 392) (s : Fin 256) :
    val_main_v48 (F := Ideal) x (ix3 e k s) = col x e k (spot s) := by
  unfold val_main_v48
  refine (Idealize.ShloMosaic.shapeCast_apply _ _ _ (ix4 e k (⟨s.val / 16, by omega⟩ : Fin 16) (⟨s.val % 16, by omega⟩ : Fin 16)) ?_).trans ?_
  · rw [Shape.rowMajor_val_four, Shape.rowMajor_val_three]
    show ((e.val * 392 + k.val) * 16 + s.val / 16) * 16 + s.val % 16 = (e.val * 392 + k.val) * 256 + s.val
    omega
  unfold val_main_v47
  rw [grid_gather _ _ e k _ _ _ _ (pair_fst _ _) (pair_snd _ _)]
  exact (col_cell x e k _ _).symm

/-- The literal two. -/
theorem two_eq : Ideal.ofBits .f32 0x40000000#32 = ((2 : ℝ) : EReal) := by
  simp [Ideal.ofBits, Ideal.ieee]
  rw [← EReal.coe_mul]; norm_num

/-- A token's squared length. -/
theorem token_square (x : FVec Ideal S2x96x224x224 .f32) (e : Fin 2) (n : Fin 12544) :
    val_main_v51 (F := Ideal) x (ix2 e n) = ∑ k : Fin 392, col x e k n * col x e k n := by
  rw [val_main_v51_apply, val_main_cst_9_apply]
  show Ideal.ofBits .f32 0x00000000#32 + _ = _
  rw [Ideal.ofBits_zero, zero_add]
  refine Finset.sum_congr rfl fun k _ => ?_
  have h : idx_main_v51 (ix2 e n) k = ix3 e k n := eq_ix3 _
  rw [h, val_main_v50_apply]
  exact Ideal.mulf_def _ _

/-- A sample's squared length. -/
theorem sample_square (x : FVec Ideal S2x96x224x224 .f32) (e : Fin 2) (s : Fin 256) :
    val_main_v53 (F := Ideal) x (ix2 e s) = ∑ k : Fin 392, col x e k (spot s) * col x e k (spot s) := by
  rw [val_main_v53_apply, val_main_cst_10_apply]
  show Ideal.ofBits .f32 0x00000000#32 + _ = _
  rw [Ideal.ofBits_zero, zero_add]
  refine Finset.sum_congr rfl fun k _ => ?_
  have h : idx_main_v53 (ix2 e s) k = ix3 e k s := eq_ix3 _
  rw [h, val_main_v52_apply, samples_apply]
  exact Ideal.mulf_def _ _

/-- The inner product of a token and a sample. -/
theorem inner_apply (x : FVec Ideal S2x96x224x224 .f32) (e : Fin 2) (n : Fin 12544) (s : Fin 256) :
    val_main_v54 (F := Ideal) x (ix3 e n s) = ∑ k : Fin 392, col x e k n * col x e k (spot s) := by
  rw [val_main_v54_apply]
  refine Finset.sum_congr rfl fun k _ => ?_
  have h : ridx_main_v54 (ix3 e n s) k = ix3 e k s := eq_ix3 _
  have h' : lidx_main_v54 (ix3 e n s) k = ix3 e k n := eq_ix3 _
  rw [h, h', samples_apply]

/-- The value that is compared, written with extended reals. -/
theorem near_form (a b c : EReal) :
    FloatOps.hostNegf (F := Ideal) (φ := .f32) (FloatOps.subf (F := Ideal) (φ := .f32) (FloatOps.addf (F := Ideal) (φ := .f32) a b)
      (FloatOps.mulf (F := Ideal) (φ := .f32) (FloatOps.ofBits (F := Ideal) .f32 0x40000000#32) c))
      = -((a + b) - Ideal.ofBits .f32 0x40000000#32 * c) := rfl

/-- The reference's comparison value of a token and a sample. -/
theorem near_apply (x : FVec Ideal S2x96x224x224 .f32) (e : Fin 2) (n : Fin 12544) (s : Fin 256) :
    val_main_v63 (F := Ideal) x (ix3 e n s)
      = -(((∑ k : Fin 392, col x e k n * col x e k n) + ∑ k : Fin 392, col x e k (spot s) * col x e k (spot s))
        - Ideal.ofBits .f32 0x40000000#32 * ∑ k : Fin 392, col x e k n * col x e k (spot s)) := by
  rw [val_main_v63_apply, val_main_v62_apply, val_main_v61_apply, val_main_v60_apply, val_main_cst_11_apply,
    val_main_v59_apply, val_main_v57_apply, val_main_v55_apply, val_main_v58_apply, val_main_v56_apply]
  have h : idx_main_v55 (idx_main_v57 (ix3 e n s)) = ix2 e n := eq_ix2 _
  have h' : idx_main_v56 (idx_main_v58 (ix3 e n s)) = ix2 e s := eq_ix2 _
  rw [h, h', token_square, sample_square, inner_apply]
  exact near_form _ _ _

/-- The number of a sampled token, in the reference's list. -/
theorem place_apply (s : Fin 256) : val_main_v33 (F := Ideal) (ix1 s) = BitVec.ofNat 32 (spot s).val := by
  pointwise [val_main_v33, val_main_v32, val_main_v31, val_main_v30, val_main_v29, val_main_v28, val_main_v27, val_main_c_4]
  rw [tick_eq, columns_tick]
  show BitVec.ofNat 32 _ * BitVec.ofNat 32 112 + BitVec.ofNat 32 _ = _
  rw [← BitVec.ofNat_mul, ← BitVec.ofNat_add]
  rfl

end Cert.ReferenceIdeal.Value

end
-- ==== Proof.Nearest.lean ====
/-
  The samples nearest to a token: the reference's sort of its comparison values finds the samples the kernel's four
  rounds find.
-/
module

public import proofs.«01_k».proof.Proof.Columns

@[expose] public section

set_option maxRecDepth 16384

noncomputable section

namespace Cert.ReferenceIdeal.Value

open Cert.ReferenceIdeal Cert.ReferenceIdeal.Gen Cert.ReferenceIdeal.Read
open Cert.KernelIdeal.Value (chan cell pixel tick tick_eq spot toInt_small select_nonneg tokens image samples score)
open Idealize.ShloMosaic Idealize.ShloMosaic.Pointwise

/-- A sum of reals, taken among the extended reals. -/
theorem coe_sum {ι : Type} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- The sorted axis of an array of comparison values, read at one place. -/
theorem along_eq (e : Fin 2) (n : Fin 12544) (q k : Fin 256) :
    Shape.Idx.along (s := S2x12544x256) (ix3 e n q) 2 k = ix3 e n k := by
  funext a
  match a with
  | ⟨0, _⟩ => rfl
  | ⟨1, _⟩ => rfl
  | ⟨2, _⟩ => rfl

/-- The numbers that are sorted along with the values are the places. -/
theorem number_along (e : Fin 2) (n : Fin 12544) (q k : Fin 256) :
    iotaInDim S2x12544x256 32 2 (Shape.Idx.along (s := S2x12544x256) (ix3 e n q) 2 k) = BitVec.ofNat 32 k.val := by
  rw [along_eq]
  rfl

/-- The second array of a sort of two, read at one place. -/
theorem second_sorted {s : Shape} {α β : Type} (a : Fin s.rank) (cmp : α × β → α × β → BitVec 1) (x : s.Idx → α) (y : s.Idx → β)
    (j : s.Idx) :
    (Host.sort2 s a.val cmp x y).2 j
      = y (j.along a (sortedFrom (fun k k' => cmp (x (j.along a k), y (j.along a k)) (x (j.along a k'), y (j.along a k')) == 1#1) (j a))) := by
  unfold Host.sort2
  rw [dif_pos a.isLt]

/-- The numbers that a sort of a row leaves, place by place. -/
theorem sorted_apply (y : FVec Ideal S2x12544x256 .f32) (cmp : EReal × BitVec 32 → EReal × BitVec 32 → BitVec 1)
    (e : Fin 2) (n : Fin 12544) (q : Fin 256) (before : Fin 256 → Fin 256 → Bool)
    (hb : ∀ k k', (cmp (y (ix3 e n k), BitVec.ofNat 32 k.val) (y (ix3 e n k'), BitVec.ofNat 32 k'.val) == 1#1) = before k k') :
    (Host.sort2 S2x12544x256 2 cmp y (iotaInDim S2x12544x256 32 2)).2 (ix3 e n q)
      = BitVec.ofNat 32 (sortedFrom before q).val := by
  have h : (fun k k' : Fin 256 => cmp
      (y (Shape.Idx.along (s := S2x12544x256) (ix3 e n q) 2 k), iotaInDim S2x12544x256 32 2 (Shape.Idx.along (s := S2x12544x256) (ix3 e n q) 2 k))
      (y (Shape.Idx.along (s := S2x12544x256) (ix3 e n q) 2 k'), iotaInDim S2x12544x256 32 2 (Shape.Idx.along (s := S2x12544x256) (ix3 e n q) 2 k')) == 1#1)
      = before := by
    funext k k'
    rw [number_along, number_along, along_eq, along_eq]
    exact hb k k'
  refine (second_sorted (s := S2x12544x256) 2 cmp y _ _).trans ?_
  refine (number_along e n q _).trans ?_
  exact congrArg (fun b : Fin 256 → Fin 256 → Bool => BitVec.ofNat 32 (sortedFrom b q).val) h

/-- The first four of a row sorted downwards, by number. -/
theorem topK_apply (y : FVec Ideal S2x12544x256 .f32) (e : Fin 2) (n : Fin 12544) (q : Fin 4) (f : Fin 256 → EReal)
    (hf : ∀ s, f s ≠ ⊥) (hg : ∀ s s', y (ix3 e n s) < y (ix3 e n s') ↔ f s < f s') :
    (Host.topK S2x12544x4 2 (FloatOps.cmpfTotal .gt) y sliceFits_S2x12544x256_S2x12544x4).2 (ix3 e n q)
      = BitVec.ofNat 32 (TopFour.pick f q.val).val := by
  rw [← TopFour.sortedFrom_eq_pick f (fun s => y (ix3 e n s)) hf hg (m := 4) (by norm_num) q]
  show extractStridedSlice S2x12544x4 (fun _ => 0)
    (Host.sort2 S2x12544x256 2 (fun l r => FloatOps.cmpfTotal .gt l.1 r.1) y (iotaInDim S2x12544x256 32 2)).2 sliceFits_S2x12544x256_S2x12544x4 (ix3 e n q) = _
  refine (Idealize.ShloMosaic.extractStridedSlice_apply _ _ _ _ (ix3 e n (q.castLE (by norm_num) : Fin 256)) ?_).trans ?_
  · intro a
    match a with
    | ⟨0, _⟩ => exact (Nat.zero_add _).symm
    | ⟨1, _⟩ => exact (Nat.zero_add _).symm
    | ⟨2, _⟩ => exact (Nat.zero_add _).symm
  refine sorted_apply y _ e n _ _ fun k k' => ?_
  show (BitVec.ofBool (decide (y (ix3 e n k') < y (ix3 e n k))) == 1#1) = _
  cases decide (y (ix3 e n k') < y (ix3 e n k)) <;> rfl

/-- Real values of an image's token entries. -/
def Finite (x : FVec Ideal S2x96x224x224 .f32) : Prop := ∀ e k n, ∃ r : ℝ, col x e k n = r

/-- The kernel's score of a token and a sample, over the token entries. -/
theorem score_eq (x : FVec Ideal S2x96x224x224 .f32) (e : Fin 2) (n : Fin 12544) (s : Fin 256) :
    score (tokens (image x)) (transpose S2x392x256 [0, 2, 1] (samples x) Cert.KernelIdeal.Facts₀.transposes_S2x256x392_S2x392x256_0_2_1) e n s
      = Ideal.ofBits .f32 0x40000000#32 * (∑ k : Fin 392, col x e k n * col x e k (spot s))
        - ∑ k : Fin 392, col x e k (spot s) * col x e k (spot s) := by
  have h (k : Fin 392) : transpose S2x392x256 [0, 2, 1] (samples x) Cert.KernelIdeal.Facts₀.transposes_S2x256x392_S2x392x256_0_2_1 (ix3 e k s)
      = col x e k (spot s) := by
    refine (Idealize.ShloMosaic.transpose_apply _ _ _ _ (ix3 e s k) (fun b => match b with
      | ⟨0, _⟩ => rfl | ⟨1, _⟩ => rfl | ⟨2, _⟩ => rfl)).trans ?_
    exact Cert.KernelIdeal.Value.samples_apply x e s k
  unfold score
  simp only [h, Cert.KernelIdeal.Value.tokens_apply]

/-- The kernel's comparison values of an image. -/
abbrev scores (x : FVec Ideal S2x96x224x224 .f32) (e : Fin 2) (n : Fin 12544) : Fin 256 → EReal :=
  score (tokens (image x)) (transpose S2x392x256 [0, 2, 1] (samples x) Cert.KernelIdeal.Facts₀.transposes_S2x256x392_S2x392x256_0_2_1) e n

/-- The sample a token has in place `q`. -/
abbrev nearest (x : FVec Ideal S2x96x224x224 .f32) (e : Fin 2) (n : Fin 12544) (q : Nat) : Fin 256 :=
  TopFour.pick (scores x e n) q

/-- The scores of a finite image are real. -/
theorem scores_real (x : FVec Ideal S2x96x224x224 .f32) (r : Fin 2 → Fin 392 → Fin 12544 → ℝ) (hr : ∀ e k n, col x e k n = r e k n)
    (e : Fin 2) (n : Fin 12544) (s : Fin 256) :
    scores x e n s = ((2 * (∑ k, r e k n * r e k (spot s)) - ∑ k, r e k (spot s) * r e k (spot s) : ℝ) : EReal) := by
  rw [scores, score_eq, two_eq]
  simp only [hr, ← EReal.coe_mul, coe_sum, ← EReal.coe_sub]

/-- The reference's comparison values of a finite image are real. -/
theorem near_real (x : FVec Ideal S2x96x224x224 .f32) (r : Fin 2 → Fin 392 → Fin 12544 → ℝ) (hr : ∀ e k n, col x e k n = r e k n)
    (e : Fin 2) (n : Fin 12544) (s : Fin 256) :
    val_main_v63 (F := Ideal) x (ix3 e n s)
      = ((-((∑ k, r e k n * r e k n) + (∑ k, r e k (spot s) * r e k (spot s)) - 2 * (∑ k, r e k n * r e k (spot s))) : ℝ) : EReal) := by
  rw [near_apply, two_eq]
  simp only [hr, ← EReal.coe_mul, coe_sum, ← EReal.coe_sub, ← EReal.coe_add, ← EReal.coe_neg]

/-- The reference's nearest samples are the kernel's four choices. -/
theorem indices_apply (x : FVec Ideal S2x96x224x224 .f32) (hx : Finite x) (e : Fin 2) (n : Fin 12544) (q : Fin 4) :
    val_main_indices (F := Ideal) x (ix3 e n q) = BitVec.ofNat 32 (nearest x e n q.val).val := by
  choose r hr using hx
  refine topK_apply _ e n q (scores x e n) (fun s => ?_) (fun s s' => ?_)
  · rw [scores_real x r hr]
    exact EReal.coe_ne_bot _
  · rw [scores_real x r hr, scores_real x r hr, near_real x r hr, near_real x r hr, EReal.coe_lt_coe_iff, EReal.coe_lt_coe_iff]
    constructor <;> intro h <;> linarith

/-- A gather from a list by a number in range reads that entry. -/
theorem list_gather (p : IVec S256 32) (i : IVec S2x12544x4x1 32) (e : Fin 2) (n : Fin 12544) (q : Fin 4)
    (s : Fin 256) (h : i (ix4 e n q 0) = BitVec.ofNat 32 s.val) :
    Host.gather gather_S256_S2x12544x4x1_S2x12544x4_n_0_n_n_0_3_1 p i (ix3 e n q) = p (ix1 s) := by
  unfold Host.gather
  congr 1
  funext c
  refine Fin.ext ?_
  match c with
  | ⟨0, _⟩ =>
    have : gather_S256_S2x12544x4x1_S2x12544x4_n_0_n_n_0_3_1.siIdx (ix3 e n q) ⟨0, by decide⟩ = ix4 e n q 0 := by
      funext b
      match b with
      | ⟨0, _⟩ => rfl
      | ⟨1, _⟩ => rfl
      | ⟨2, _⟩ => rfl
      | ⟨3, _⟩ => rfl
    show min (i (gather_S256_S2x12544x4x1_S2x12544x4_n_0_n_n_0_3_1.siIdx (ix3 e n q) ⟨0, by decide⟩)).toInt.toNat 255 = s.val
    rw [this, h, toInt_small (by omega)]
    omega

/-- A gather of token columns by a number in range reads that column. -/
theorem column_gather (v : FVec Ideal S2x392x12544 .f32) (i : IVec S2x12544x4x1 32) (e : Fin 2) (k : Fin 392) (n : Fin 12544)
    (q : Fin 4) (m : Fin 12544) (h : i (ix4 e n q 0) = BitVec.ofNat 32 m.val) :
    Host.gather gather_S2x392x12544_S2x12544x4x1_S2x392x12544x4_1_2_0_0_2_3_13921 v i (ix4 e k n q) = v (ix3 e k m) := by
  unfold Host.gather
  congr 1
  funext c
  refine Fin.ext ?_
  match c with
  | ⟨0, _⟩ => exact Nat.zero_add _
  | ⟨1, _⟩ => exact Nat.zero_add _
  | ⟨2, _⟩ =>
    have : gather_S2x392x12544_S2x12544x4x1_S2x392x12544x4_1_2_0_0_2_3_13921.siIdx (ix4 e k n q) ⟨0, by decide⟩ = ix4 e n q 0 := by
      funext b
      match b with
      | ⟨0, _⟩ => rfl
      | ⟨1, _⟩ => rfl
      | ⟨2, _⟩ => rfl
      | ⟨3, _⟩ => rfl
    show min (i (gather_S2x392x12544_S2x12544x4x1_S2x392x12544x4_1_2_0_0_2_3_13921.siIdx (ix4 e k n q) ⟨0, by decide⟩)).toInt.toNat 12543 = m.val
    rw [this, h, toInt_small (by omega)]
    omega

/-- The nearest samples, as the gather reads them. -/
theorem chosen_apply (x : FVec Ideal S2x96x224x224 .f32) (hx : Finite x) (e : Fin 2) (n : Fin 12544) (q : Fin 4) :
    val_main_v69 (F := Ideal) x (ix4 e n q 0) = BitVec.ofNat 32 (nearest x e n q.val).val := by
  rw [val_main_v69_apply]
  have h : idx_main_v69 (ix4 e n q (0 : Fin 1)) = ix3 e n q := eq_ix3 _
  rw [h, val_main_v68_apply, val_main_v65_apply, val_main_v64_apply, val_main_c_12_apply, indices_apply x hx]
  exact select_nonneg (by omega) _

/-- The token numbers of the nearest samples. -/
theorem number_apply (x : FVec Ideal S2x96x224x224 .f32) (hx : Finite x) (e : Fin 2) (n : Fin 12544) (q : Fin 4) :
    val_main_v76 (F := Ideal) x (ix4 e n q 0) = BitVec.ofNat 32 (spot (nearest x e n q.val)).val := by
  rw [val_main_v76_apply]
  have h : idx_main_v76 (ix4 e n q (0 : Fin 1)) = ix3 e n q := eq_ix3 _
  have h' : val_main_v70 (F := Ideal) x (ix3 e n q) = BitVec.ofNat 32 (spot (nearest x e n q.val)).val := by
    unfold val_main_v70
    rw [list_gather _ _ e n q _ (chosen_apply x hx e n q)]
    exact place_apply _
  rw [h, val_main_v75_apply, val_main_v72_apply, val_main_v71_apply, val_main_c_14_apply, h']
  exact select_nonneg (by omega) _

/-- A token's neighbours, read. -/
theorem neighbours_apply (x : FVec Ideal S2x96x224x224 .f32) (hx : Finite x) (e : Fin 2) (k : Fin 392) (n : Fin 12544) (q : Fin 4) :
    val_main_v77 (F := Ideal) x (ix4 e k n q) = col x e k (spot (nearest x e n q.val)) := by
  unfold val_main_v77
  exact column_gather _ _ e k n q _ (number_apply x hx e n q)

end Cert.ReferenceIdeal.Value

end
-- ==== Proof.Weights.lean ====
/-
  The kernel's folded weight, folded bias and final rearrangement, read at an index.
-/
module

public import proofs.«01_k».proof.Proof.Nearest

@[expose] public section

set_option maxRecDepth 16384

noncomputable section

namespace Cert.KernelIdeal.Value

open Cert.KernelIdeal Cert.KernelIdeal.Gen
open Idealize.ShloMosaic Idealize.ShloMosaic.Pointwise

/-- A place in a two-by-two block. -/
def corner (a b : Fin 2) : Fin 4 := ⟨a.val * 2 + b.val, by omega⟩

/-- A column of one neighbour's part of the folded weight. -/
def lane (a b : Fin 2) (o : Fin 96) : Fin 384 := ⟨(a.val * 2 + b.val) * 96 + o.val, by omega⟩

/-- A column of the folded weight. -/
def wide (q : Fin 4) (m : Fin 384) : Fin 1536 := ⟨q.val * 384 + m.val, by omega⟩

/-- The folded weight's product is a sum over the image channels. -/
theorem fold_dot (u : FVec Ideal S98x4x392x4 .f32) (wp : FVec Ideal S96x98 .f32) (r : Fin 4) (c : Fin 392) (q : Fin 4) (o : Fin 96) :
    Host.dotGeneral dot_S98x4x392x4_S96x98_S4x392x4x96_0_1_123_0_n_n none u wp (ix4 r c q o)
      = ∑ p : Fin 98, u (ix4 p r c q) * wp (ix2 o p) := by
  pointwise []

/-- The folded bias's product is a sum over the image channels. -/
theorem bias_dot (u : FVec Ideal S98x4 .f32) (wp : FVec Ideal S96x98 .f32) (r : Fin 4) (o : Fin 96) :
    Host.dotGeneral dot_S98x4_S96x98_S4x96_0_1_1_0_n_n none u wp (ix2 r o)
      = ∑ p : Fin 98, u (ix2 p r) * wp (ix2 o p) := by
  pointwise []

/-- The first weight by image channel and place in the block. -/
theorem split_weight (wc : FVec Ideal S392x392x4 .f32) (p : Fin 98) (a b : Fin 2) (c : Fin 392) (q : Fin 4) :
    shapeCast S98x4x392x4 wc shapeCasts_S392x392x4_S98x4x392x4 (ix4 p (corner a b) c q) = wc (ix3 (chan p a b) c q) := by
  refine Idealize.ShloMosaic.shapeCast_apply _ _ _ _ ?_
  rw [Shape.rowMajor_val_four, Shape.rowMajor_val_three]
  show ((p.val * 4 + a.val * 2 + b.val) * 392 + c.val) * 4 + q.val = ((p.val * 4 + (a.val * 2 + b.val)) * 392 + c.val) * 4 + q.val
  omega

/-- One entry of the folded weight. -/
theorem weight_apply (wc : FVec Ideal S392x392x4 .f32) (wp : FVec Ideal S96x98 .f32) (c : Fin 392) (q : Fin 4) (a b : Fin 2) (o : Fin 96) :
    weight wc wp (ix2 c (wide q (lane a b o))) = ∑ p : Fin 98, wc (ix3 (chan p a b) c q) * wp (ix2 o p) := by
  unfold weight
  refine (Idealize.ShloMosaic.shapeCast_apply _ _ _ (ix4 c q (corner a b) o) ?_).trans ?_
  · rw [Shape.rowMajor_val_four, Shape.rowMajor_val_two]
    show ((c.val * 4 + q.val) * 4 + (a.val * 2 + b.val)) * 96 + o.val = c.val * 1536 + (q.val * 384 + ((a.val * 2 + b.val) * 96 + o.val))
    omega
  refine (Idealize.ShloMosaic.transpose_apply _ _ _ _ (ix4 (corner a b) c q o) (fun b => match b with
    | ⟨0, _⟩ => rfl | ⟨1, _⟩ => rfl | ⟨2, _⟩ => rfl | ⟨3, _⟩ => rfl)).trans ?_
  rw [fold_dot]
  refine Finset.sum_congr rfl fun p _ => ?_
  rw [split_weight]

/-- The first bias by image channel and place in the block. -/
theorem split_bias (bc : FVec Ideal S392 .f32) (p : Fin 98) (a b : Fin 2) :
    shapeCast S98x4 bc shapeCasts_S392_S98x4 (ix2 p (corner a b)) = bc (ix1 (chan p a b)) := by
  refine Idealize.ShloMosaic.shapeCast_apply _ _ _ _ ?_
  rw [Shape.rowMajor_val_two, Shape.rowMajor_val_one]
  show p.val * 4 + a.val * 2 + b.val = p.val * 4 + (a.val * 2 + b.val)
  omega

/-- The second bias, the same at every place in the block. -/
theorem spread_bias (bp : FVec Ideal S96 .f32) (r : Fin 4) (o : Fin 96) :
    broadcastInDim S4x96 ![0, 1] bcast_S1x96_S4x96_0_1 (broadcastInDim S1x96 ![1] bcast_S96_S1x96_1 bp) (ix2 r o) = bp (ix1 o) := by
  pointwise []

/-- One entry of the folded bias. -/
theorem bias_apply (bc : FVec Ideal S392 .f32) (wp : FVec Ideal S96x98 .f32) (bp : FVec Ideal S96 .f32) (a b : Fin 2) (o : Fin 96) :
    bias bc wp bp (ix2 (0 : Fin 1) (lane a b o)) = (∑ p : Fin 98, bc (ix1 (chan p a b)) * wp (ix2 o p)) + bp (ix1 o) := by
  unfold bias
  refine (Idealize.ShloMosaic.shapeCast_apply _ _ _ (ix2 (corner a b) o) ?_).trans ?_
  · rw [Shape.rowMajor_val_two, Shape.rowMajor_val_two]
    show (a.val * 2 + b.val) * 96 + o.val = 0 * 384 + ((a.val * 2 + b.val) * 96 + o.val)
    omega
  refine (Ideal.addf_def _ _).trans ?_
  rw [bias_dot, spread_bias]
  simp only [split_bias]

/-- A pixel of the result image is an entry of its token's row. -/
theorem unfolded_apply (y : FVec Ideal S2x12544x384 .f32) (e : Fin 2) (o : Fin 96) (i j : Fin 112) (a b : Fin 2) :
    unfolded y (ix4 e o (pixel i a) (pixel j b)) = y (ix3 e (cell i j) (lane a b o)) := by
  unfold unfolded
  refine (Idealize.ShloMosaic.shapeCast_apply _ _ _ (ix6 e o i a j b) ?_).trans ?_
  · rw [Shape.rowMajor_val_six, Shape.rowMajor_val_four]
    show ((((e.val * 96 + o.val) * 112 + i.val) * 2 + a.val) * 112 + j.val) * 2 + b.val
      = ((e.val * 96 + o.val) * 224 + (i.val * 2 + a.val)) * 224 + (j.val * 2 + b.val)
    omega
  refine (Idealize.ShloMosaic.transpose_apply _ _ _ _ (ix6 e i j a b o) (fun b => match b with
    | ⟨0, _⟩ => rfl | ⟨1, _⟩ => rfl | ⟨2, _⟩ => rfl | ⟨3, _⟩ => rfl | ⟨4, _⟩ => rfl | ⟨5, _⟩ => rfl)).trans ?_
  refine Idealize.ShloMosaic.shapeCast_apply _ _ _ _ ?_
  rw [Shape.rowMajor_val_six, Shape.rowMajor_val_three]
  show (e.val * 12544 + (i.val * 112 + j.val)) * 384 + ((a.val * 2 + b.val) * 96 + o.val)
    = ((((e.val * 112 + i.val) * 112 + j.val) * 2 + a.val) * 2 + b.val) * 96 + o.val
  omega

end Cert.KernelIdeal.Value

end
-- ==== Proof.Output.lean ====
/-
  The reference's result, and the kernel's, read at a pixel.
-/
module

public import proofs.«01_k».proof.Proof.Weights

@[expose] public section

set_option maxRecDepth 16384

noncomputable section

namespace Cert.ReferenceIdeal.Value

open Cert.ReferenceIdeal Cert.ReferenceIdeal.Gen Cert.ReferenceIdeal.Read
open Cert.KernelIdeal.Value (chan cell pixel spot lane wide)
open Idealize.ShloMosaic Idealize.ShloMosaic.Pointwise

/-- The first weight's product with the neighbours is a sum over channels and neighbours. -/
theorem conv_dot (wc : FVec Ideal S392x392x4 .f32) (v : FVec Ideal S2x392x12544x4 .f32) (d : Fin 392) (e : Fin 2) (n : Fin 12544) :
    Host.dotGeneral dot_S392x392x4_S2x392x12544x4_S392x2x12544_12_13_0_02_n_n none wc v (ix3 d e n)
      = ∑ c : Fin 392, ∑ q : Fin 4, wc (ix3 d c q) * v (ix4 e c n q) := by
  pointwise []

variable (x : FVec Ideal S2x96x224x224 .f32) (wc : FVec Ideal S392x392x4 .f32) (bc : FVec Ideal S392 .f32)
  (wp : FVec Ideal S96x98 .f32) (bp : FVec Ideal S96 .f32)

/-- The reference's first layer, at one token and one channel. -/
theorem conv_apply (hx : Finite x) (d : Fin 392) (e : Fin 2) (n : Fin 12544) :
    val_main_v82 (F := Ideal) x wc bc (ix3 e d n)
      = (∑ c : Fin 392, ∑ q : Fin 4, wc (ix3 d c q) * col x e c (spot (nearest x e n q.val))) + bc (ix1 d) := by
  rw [val_main_v82_apply, val_main_v79_apply, val_main_v81_apply, val_main_v80_apply]
  have h : idx_main_v79 (ix3 e d n) = ix3 d e n := eq_ix3 _
  have h' : idx_main_v80 (idx_main_v81 (ix3 e d n)) = ix1 d := eq_ix1 _
  have h'' : val_main_v78 (F := Ideal) x wc (ix3 d e n)
      = ∑ c : Fin 392, ∑ q : Fin 4, wc (ix3 d c q) * col x e c (spot (nearest x e n q.val)) := by
    unfold val_main_v78
    rw [conv_dot]
    simp only [neighbours_apply x hx]
  rw [h, h', h'']
  exact Ideal.addf_def _ _

/-- The first layer's result put back as an image. -/
theorem shuffled_apply (e : Fin 2) (p : Fin 98) (i j : Fin 112) (a b : Fin 2) :
    val_main_v86 (F := Ideal) x wc bc (ix4 e p (pixel i a) (pixel j b))
      = val_main_v82 (F := Ideal) x wc bc (ix3 e (chan p a b) (cell i j)) := by
  unfold val_main_v86
  refine (Idealize.ShloMosaic.shapeCast_apply _ _ _ (ix6 e p i a j b) ?_).trans ?_
  · rw [Shape.rowMajor_val_six, Shape.rowMajor_val_four]
    show ((((e.val * 98 + p.val) * 112 + i.val) * 2 + a.val) * 112 + j.val) * 2 + b.val
      = ((e.val * 98 + p.val) * 224 + (i.val * 2 + a.val)) * 224 + (j.val * 2 + b.val)
    omega
  unfold val_main_v85
  refine (Idealize.ShloMosaic.transpose_apply _ _ _ _ (ix6 e p a b i j) (fun b => match b with
    | ⟨0, _⟩ => rfl | ⟨1, _⟩ => rfl | ⟨2, _⟩ => rfl | ⟨3, _⟩ => rfl | ⟨4, _⟩ => rfl | ⟨5, _⟩ => rfl)).trans ?_
  unfold val_main_v84
  refine (Idealize.ShloMosaic.shapeCast_apply _ _ _ (ix4 e (chan p a b) i j) ?_).trans ?_
  · rw [Shape.rowMajor_val_six, Shape.rowMajor_val_four]
    show ((e.val * 392 + (p.val * 4 + a.val * 2 + b.val)) * 112 + i.val) * 112 + j.val
      = ((((e.val * 98 + p.val) * 2 + a.val) * 2 + b.val) * 112 + i.val) * 112 + j.val
    omega
  unfold val_main_v83
  refine Idealize.ShloMosaic.shapeCast_apply _ _ _ _ ?_
  rw [Shape.rowMajor_val_four, Shape.rowMajor_val_three]
  show (e.val * 392 + (p.val * 4 + a.val * 2 + b.val)) * 12544 + (i.val * 112 + j.val)
    = ((e.val * 392 + (p.val * 4 + a.val * 2 + b.val)) * 112 + i.val) * 112 + j.val
  omega

/-- The reference's second layer, at one pixel. -/
theorem project_apply (e : Fin 2) (o : Fin 96) (h w : Fin 224) :
    val_main_v91 (F := Ideal) x wc bc wp bp (ix4 e o h w)
      = (∑ p : Fin 98, wp (ix2 o p) * val_main_v86 (F := Ideal) x wc bc (ix4 e p h w)) + bp (ix1 o) := by
  rw [val_main_v91_apply, val_main_v88_apply, val_main_v87_apply, val_main_v90_apply, val_main_v89_apply]
  have h1 : idx_main_v89 (idx_main_v90 (ix4 e o h w)) = ix1 o := eq_ix1 _
  have h2 (p : Fin 98) : lidx_main_v87 (idx_main_v88 (ix4 e o h w)) p = ix2 o p := eq_ix2 _
  have h3 (p : Fin 98) : ridx_main_v87 (idx_main_v88 (ix4 e o h w)) p = ix4 e p h w := eq_ix4 _
  simp only [h1, h2, h3]
  exact Ideal.addf_def _ _

/-- The reference's result at a pixel. -/
theorem reference_apply (hx : Finite x) (e : Fin 2) (o : Fin 96) (i j : Fin 112) (a b : Fin 2) :
    val_main_v91 (F := Ideal) x wc bc wp bp (ix4 e o (pixel i a) (pixel j b))
      = (∑ p : Fin 98, wp (ix2 o p) * ((∑ c : Fin 392, ∑ q : Fin 4,
          wc (ix3 (chan p a b) c q) * col x e c (spot (nearest x e (cell i j) q.val))) + bc (ix1 (chan p a b)))) + bp (ix1 o) := by
  rw [project_apply]
  simp only [shuffled_apply, conv_apply x wc bc hx]

open Cert.KernelIdeal.Value (mixed product tokens image samples weight bias entry)

/-- The first launch's result at a sample: the folded weight's sum. -/
theorem product_apply (e : Fin 2) (s : Fin 256) (q : Fin 4) (a b : Fin 2) (o : Fin 96) :
    product (samples x) (weight wc wp) (ix3 e s (wide q (lane a b o)))
      = ∑ c : Fin 392, col x e c (spot s) * ∑ p : Fin 98, wc (ix3 (chan p a b) c q) * wp (ix2 o p) := by
  show ∑ c : Fin 392, samples x (ix3 e s c) * weight wc wp (ix2 c (wide q (lane a b o))) = _
  refine Finset.sum_congr rfl fun c _ => ?_
  rw [Cert.KernelIdeal.Value.samples_apply, Cert.KernelIdeal.Value.weight_apply]

/-- The kernel's result at a pixel. -/
theorem kernel_apply (e : Fin 2) (o : Fin 96) (i j : Fin 112) (a b : Fin 2) :
    Cert.KernelIdeal.Value.result x wc bc wp bp (ix4 e o (pixel i a) (pixel j b))
      = (∑ q : Fin 4, ∑ c : Fin 392, col x e c (spot (nearest x e (cell i j) q.val)) * ∑ p : Fin 98, wc (ix3 (chan p a b) c q) * wp (ix2 o p))
        + ((∑ p : Fin 98, bc (ix1 (chan p a b)) * wp (ix2 o p)) + bp (ix1 o)) := by
  unfold Cert.KernelIdeal.Value.result
  rw [Cert.KernelIdeal.Value.unfolded_apply, Fin.sum_univ_four, ← Cert.KernelIdeal.Value.bias_apply]
  simp only [← product_apply]
  have h0 : wide 0 (lane a b o) = ⟨(lane a b o).val, by omega⟩ := Fin.ext (Nat.zero_add _)
  rw [h0]
  rfl

end Cert.ReferenceIdeal.Value

end
-- ==== Proof.Finite.lean ====
/-
  Finite inputs give finite token entries; the two results then agree entry by entry.
-/
module

public import proofs.«01_k».proof.Proof.Output
public import proofs.«01_k».proof.Pre_finite
public import Idealize.ShloMosaic.Lib.ReduceAll

@[expose] public section

set_option maxRecDepth 16384

noncomputable section

namespace Cert.ReferenceIdeal.Value

open Cert.ReferenceIdeal Cert.ReferenceIdeal.Gen Cert.ReferenceIdeal.Read
open Cert.KernelIdeal.Value (chan cell pixel spot exists_chan exists_cell columns_at div_real)
open Idealize.ShloMosaic Idealize.ShloMosaic.Pointwise

/-! ### The coordinate planes -/

/-- A pixel's row and column numbers are real. -/
theorem place_real (k : Fin 2) (a b : Fin 224) : ∃ r : ℝ, val_main_v6 (F := Ideal) (ix3 k a b) = r := by
  pointwise [val_main_v6, val_main_v5, val_main_v4, val_main_v3, val_main_v2, val_main_v1, val_main_v0, iotaInDim]
  split
  · exact ⟨_, rfl⟩
  · exact ⟨_, rfl⟩

/-- The least length divided by is a positive real. -/
theorem floor_real : ∃ r : ℝ, 0 < r ∧ Ideal.ofBits .f32 0x2B8CBCCC#32 = r := by
  refine ⟨9223372 * (2 ^ 63)⁻¹, by positivity, ?_⟩
  simp [Ideal.ofBits, Ideal.ieee]

/-- The length divided by is a real other than zero. -/
theorem length_real (k : Fin 2) (a b : Fin 224) : ∃ r : ℝ, r ≠ 0 ∧ val_main_v13 (F := Ideal) (ix3 k a b) = r := by
  obtain ⟨r, hr⟩ := place_real 0 a b
  obtain ⟨s, hs⟩ := place_real 1 a b
  obtain ⟨t, ht, he⟩ := floor_real
  pointwise [val_main_v13, val_main_v12, val_main_v11, val_main_v10, val_main_v9, val_main_v8, val_main_v7, val_main_cst, val_main_cst_0]
  have hsum : ∑ k : Fin 2, val_main_v6 (F := Ideal) (ix3 k a b) * val_main_v6 (F := Ideal) (ix3 k a b) = ((r * r + s * s : ℝ) : EReal) := by
    rw [Fin.sum_univ_two, hr, hs, EReal.coe_add, EReal.coe_mul, EReal.coe_mul]
  rw [hsum, he, Ideal.sqrt_coe, if_neg (not_lt.mpr (add_nonneg (mul_self_nonneg r) (mul_self_nonneg s))), ← EReal.coe_strictMono.monotone.map_max]
  exact ⟨_, (lt_of_lt_of_le ht (le_max_right _ _)).ne', rfl⟩

/-- A pixel's coordinates are real. -/
theorem coordinate_real (k : Fin 2) (a b : Fin 224) : ∃ r : ℝ, val_main_v14 (F := Ideal) (ix3 k a b) = r := by
  obtain ⟨r, hr⟩ := place_real k a b
  obtain ⟨s, hs, h⟩ := length_real k a b
  refine ⟨r / s, ?_⟩
  rw [val_main_v14_apply, hr, h]
  exact div_real r s hs

/-- The coordinate channels are real. -/
theorem plane_real (e k : Fin 2) (a b : Fin 224) : ∃ r : ℝ, val_main_v16 (F := Ideal) (ix4 e k a b) = r := by
  rw [val_main_v16_apply, val_main_v15_apply]
  have h : idx_main_v15 (idx_main_v16 (ix4 e k a b)) = ix3 k a b := eq_ix3 _
  rw [h]
  exact coordinate_real k a b

/-- A finite image stays finite with the coordinate channels appended. -/
theorem stacked_real (x : FVec Ideal S2x96x224x224 .f32) (hx : ∀ i, ∃ r : ℝ, x i = r) (e : Fin 2) (p : Fin 98) (h w : Fin 224) :
    ∃ r : ℝ, val_main_v17 (F := Ideal) x (ix4 e p h w) = r := by
  pointwise [val_main_v17]
  split
  · exact hx _
  · exact plane_real _ _ _ _

/-- Every token entry of a finite image is real. -/
theorem finite_of (x : FVec Ideal S2x96x224x224 .f32) (hx : ∀ i, ∃ r : ℝ, x i = r) : Finite x := by
  intro e k n
  obtain ⟨i, j, rfl⟩ := exists_cell n
  obtain ⟨p, a, b, rfl⟩ := exists_chan k
  obtain ⟨r, hr⟩ := stacked_real x hx e p (pixel i a) (pixel j b)
  exact ⟨r, (columns_at x e i j p a b).trans hr⟩

/-! ### The rearranged sums -/

/-- A real factor distributes over a real and any extended real. -/
theorem mul_add_real (w s : ℝ) (b : EReal) : (w : EReal) * ((s : EReal) + b) = (w : EReal) * s + (w : EReal) * b := by
  induction b with
  | bot =>
    rw [EReal.add_bot]
    rcases lt_trichotomy w 0 with h | h | h
    · rw [EReal.coe_mul_bot_of_neg h, ← EReal.coe_mul, EReal.coe_add_top]
    · subst h; simp
    · rw [EReal.coe_mul_bot_of_pos h, EReal.add_bot]
  | top =>
    rw [EReal.coe_add_top]
    rcases lt_trichotomy w 0 with h | h | h
    · rw [EReal.coe_mul_top_of_neg h, EReal.add_bot]
    · subst h; simp
    · rw [EReal.coe_mul_top_of_pos h, ← EReal.coe_mul, EReal.coe_add_top]
  | coe b =>
    rw [← EReal.coe_add, ← EReal.coe_mul, ← EReal.coe_mul, ← EReal.coe_mul, ← EReal.coe_add, mul_add]

/-- Folding the second weight into the first changes nothing where the weights and the tokens are real, whatever the biases. -/
theorem sums_agree (w : Fin 98 → ℝ) (v : Fin 98 → Fin 392 → Fin 4 → ℝ) (y : Fin 392 → Fin 4 → ℝ) (bc : Fin 98 → EReal) (bp : EReal) :
    (∑ q : Fin 4, ∑ c : Fin 392, ((y c q : ℝ) : EReal) * ∑ p : Fin 98, ((v p c q : ℝ) : EReal) * ((w p : ℝ) : EReal))
        + ((∑ p : Fin 98, bc p * ((w p : ℝ) : EReal)) + bp)
      = (∑ p : Fin 98, ((w p : ℝ) : EReal) * ((∑ c : Fin 392, ∑ q : Fin 4, ((v p c q : ℝ) : EReal) * ((y c q : ℝ) : EReal)) + bc p)) + bp := by
  have h (p : Fin 98) : ((w p : ℝ) : EReal) * ((∑ c : Fin 392, ∑ q : Fin 4, ((v p c q : ℝ) : EReal) * ((y c q : ℝ) : EReal)) + bc p)
      = ((w p * ∑ c : Fin 392, ∑ q : Fin 4, v p c q * y c q : ℝ) : EReal) + bc p * ((w p : ℝ) : EReal) := by
    simp only [← EReal.coe_mul, coe_sum]
    rw [mul_add_real, ← EReal.coe_mul, mul_comm (bc p)]
  simp only [h, Finset.sum_add_distrib]
  rw [add_assoc]
  refine congrArg₂ HAdd.hAdd ?_ rfl
  simp only [← EReal.coe_mul, coe_sum]
  refine congrArg Real.toEReal ?_
  simp only [Finset.mul_sum]
  rw [Finset.sum_comm]
  refine Eq.trans ?_ Finset.sum_comm
  refine Finset.sum_congr rfl fun c _ => ?_
  refine Eq.trans ?_ Finset.sum_comm
  refine Finset.sum_congr rfl fun q _ => Finset.sum_congr rfl fun p _ => ?_
  ring

/-! ### The two results -/

/-- Every row of the image lies in one block, and so does every column. -/
theorem exists_pixel (h : Fin 224) : ∃ i a, h = pixel i a := by
  refine ⟨⟨h.val / 2, by omega⟩, ⟨h.val % 2, by omega⟩, Fin.ext ?_⟩
  show h.val = _
  simp only [pixel]
  omega

/-- The kernel's result is the reference's, where image and weights are finite. -/
theorem results_agree (x : FVec Ideal S2x96x224x224 .f32) (wc : FVec Ideal S392x392x4 .f32) (bc : FVec Ideal S392 .f32)
    (wp : FVec Ideal S96x98 .f32) (bp : FVec Ideal S96 .f32) (hx : ∀ i, ∃ r : ℝ, x i = r) (hc : ∀ i, ∃ r : ℝ, wc i = r)
    (hp : ∀ i, ∃ r : ℝ, wp i = r) : Cert.KernelIdeal.Value.result x wc bc wp bp = val_main_v91 (F := Ideal) x wc bc wp bp := by
  have hf : Finite x := finite_of x hx
  choose y hy using hf
  choose v hv using hc
  choose w hw using hp
  funext t
  obtain ⟨e, o, h, l, rfl⟩ : ∃ e o h l, t = ix4 e o h l := ⟨_, _, _, _, eq_ix4 t⟩
  obtain ⟨i, a, rfl⟩ := exists_pixel h
  obtain ⟨j, b, rfl⟩ := exists_pixel l
  rw [kernel_apply, reference_apply x wc bc wp bp (finite_of x hx)]
  simp only [hy, hv, hw]
  exact sums_agree (fun p => w (ix2 o p)) (fun p c q => v (ix3 (chan p a b) c q))
    (fun c q => y e c (spot (nearest x e (cell i j) q.val))) (fun p => bc (ix1 (chan p a b))) (bp (ix1 o))

/-! ### Reading the precondition -/

instance preFacts : Cert.Pre_finite.Facts where
  bcast_S_S2x96x224x224 := by decide
  reducesTo_S2x96x224x224_S_d0_1_2_3 := by decide
  h_S_ := by decide
  bcast_S_S392x392x4 := by decide
  reducesTo_S392x392x4_S_d0_1_2 := by decide
  bcast_S_S96x98 := by decide
  reducesTo_S96x98_S_d0_1 := by decide

/-- An extended real whose absolute value is below infinity is real. -/
theorem real_of_abs_lt (y : EReal) (h : max y (-y) < ⊤) : ∃ r : ℝ, y = r := by
  induction y with
  | bot => simp at h
  | top => simp at h
  | coe r => exact ⟨r, rfl⟩

/-- The same, from the comparison's bit. -/
theorem real_of_bit (y : EReal) (h : BitVec.ofBool (decide (max y (-y) < Ideal.ofBits .f32 0x7F800000#32)) = 1#1) : ∃ r : ℝ, y = r := by
  have top : Ideal.ofBits .f32 0x7F800000#32 = ⊤ := by simp [Ideal.ofBits, Ideal.ieee]
  rw [top] at h
  refine real_of_abs_lt y ?_
  by_contra hn
  rw [decide_eq_false hn] at h
  exact absurd h (by decide)

instance : Subsingleton Cert.Pre_finite.S_.Idx := ⟨fun _ _ => funext fun b => b.elim0⟩

/-- The precondition says that the image and both weights are real. -/
theorem inputs_real (x : FVec Ideal S2x96x224x224 .f32) (wc : FVec Ideal S392x392x4 .f32) (bc : FVec Ideal S392 .f32)
    (wp : FVec Ideal S96x98 .f32) (bp : FVec Ideal S96 .f32) (h : Cert.Pre_finite.fn (F := Ideal) x wc bc wp bp = fun _ => 1#1) :
    (∀ i, ∃ r : ℝ, x i = r) ∧ (∀ i, ∃ r : ℝ, wc i = r) ∧ (∀ i, ∃ r : ℝ, wp i = r) := by
  have h0 := congrFun h ix0
  obtain ⟨h1, hp⟩ := IntOp.andi_eq_one.1 h0
  obtain ⟨hx, hc⟩ := IntOp.andi_eq_one.1 h1
  exact ⟨fun i => real_of_bit _ (Host.reduce_andi_all _ _ _ _ _ hx i), fun i => real_of_bit _ (Host.reduce_andi_all _ _ _ _ _ hc i),
    fun i => real_of_bit _ (Host.reduce_andi_all _ _ _ _ _ hp i)⟩

end Cert.ReferenceIdeal.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Run
public import proofs.«01_k».proof.Proof.KernelValue
public import proofs.«01_k».proof.Proof.Finite
public import Idealize.ShloMosaic.Adequacy
public import Idealize.ShloMosaic.Init

@[expose] public section

noncomputable section

namespace Cert.Proof

open Idealize.ShloMosaic Idealize.SL.Sem

/-- The kernel runs to the end, its arguments unchanged and its counters at zero. -/
theorem kernel_frame : Cert.quiescent_Kernel := fun m ρ _ => Cert.Kernel.Gen.frame m ρ

/-- The same of the kernel over the extended reals, whatever its arguments. -/
theorem ideal_frame : Cert.quiescent_KernelIdeal := fun m ρ _ => Cert.KernelIdeal.Gen.frame m ρ

/-- The same again, under the precondition. -/
theorem ideal_frame_finite : Cert.quiescent_KernelIdeal_pre_finite (hPre_finite := Cert.ReferenceIdeal.Value.preFacts) :=
  fun m ρ _ => Cert.KernelIdeal.Gen.frame m ρ

/-- The reference runs to the end, its arguments unchanged; it names no semaphore, so every counter stays zero. -/
theorem reference_frame : Cert.quiescent_ReferenceIdeal := by
  intro m ρ _
  exact (θ_run Cert.ReferenceIdeal.defs _ _).mono (fun r h => ⟨fun c => (h c).2, sem_eq_zero_of_no_sems (by decide) r.2⟩)
    (Cert.ReferenceIdeal.Value.run (F := Ideal) m ρ)

/-- The same again, under the precondition. -/
theorem reference_frame_finite : Cert.quiescent_ReferenceIdeal_pre_finite (hPre_finite := Cert.ReferenceIdeal.Value.preFacts) :=
  fun m ρ _ => reference_frame m ρ trivial

open Cert.ReferenceIdeal in
/-- The reference's result depends on its arguments only. -/
theorem same_value {x y : FVec Ideal S2x96x224x224 .f32} {wc vc : FVec Ideal S392x392x4 .f32} {bc dc : FVec Ideal S392 .f32}
    {wp vp : FVec Ideal S96x98 .f32} {bp dp : FVec Ideal S96 .f32} (h0 : x = y) (h1 : wc = vc) (h2 : bc = dc) (h3 : wp = vp) (h4 : bp = dp) :
    Cert.ReferenceIdeal.Read.val_main_v91 (F := Ideal) x wc bc wp bp = Cert.ReferenceIdeal.Read.val_main_v91 (F := Ideal) y vc dc vp dp := by
  subst h0 h1 h2 h3 h4
  rfl

/-- From equal arguments, finite where the precondition says so, the two programs end with equal results. -/
theorem agree : Cert.algebraic_KernelIdeal_ReferenceIdeal_pre_finite (hPre_finite := Cert.ReferenceIdeal.Value.preFacts) := by
  intro m ρ m' ρ' hpre hargs
  refine ⟨fun c => Cert.KernelIdeal.Gen.W9 m ρ c (Proc.devRef .tc Cert.KernelIdeal.main_v48), Cert.KernelIdeal.Value.run m ρ, ?_⟩
  refine (θ_run Cert.ReferenceIdeal.defs _ _).mono (fun r h c => ⟨(h c).1.trans ?_, (h c).2⟩)
    (Cert.ReferenceIdeal.Value.run (F := Ideal) m' ρ')
  obtain ⟨h0, h1, h2, h3, h4⟩ := hargs c
  obtain ⟨hx, hc, hp⟩ := Cert.ReferenceIdeal.Value.inputs_real _ _ _ _ _ (hpre c)
  refine (Cert.ReferenceIdeal.Read.val_main_v91_eq (StableHlo.launchContents m' c)).trans ?_
  refine Eq.trans ?_ ((Cert.KernelIdeal.Value.W9_value m ρ c).trans (Cert.ReferenceIdeal.Value.results_agree _ _ _ _ _ hx hc hp)).symm
  exact same_value h0 h1 h2 h3 h4

theorem claim : Cert.Claim :=
  ⟨Cert.Kernel.Gen.facts, Cert.KernelIdeal.Gen.facts, Cert.ReferenceIdeal.Gen.facts, Cert.ReferenceIdeal.Value.preFacts,
    kernel_frame, ideal_frame, ideal_frame_finite, reference_frame, reference_frame_finite, trivial, agree⟩

end Cert.Proof

end
